-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S131072x8 : Shape := ⟨2, ![131072, 8]⟩
abbrev S1366x8 : Shape := ⟨2, ![1366, 8]⟩
abbrev S1366 : Shape := ⟨1, ![1366]⟩
abbrev S256 : Shape := ⟨1, ![256]⟩
abbrev S8 : Shape := ⟨1, ![8]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S1366x8 : S_.BroadcastsInDim S1366x8 (![] : Fin 0 → Fin S1366x8.rank)
  reducesTo_S1366x8_S_d0_1 : S1366x8.ReducesTo [0, 1] S_
  bcast_S_S1366 : S_.BroadcastsInDim S1366 (![] : Fin 0 → Fin S1366.rank)
  reducesTo_S1366_S_d0 : S1366.ReducesTo [0] S_
  reducesTo_S8_S_d0 : S8.ReducesTo [0] S_

variable [Facts]

noncomputable abbrev lit0 : Fin 8 → BitVec 32 := fun
  | 0 => 1#32 | 1 => 2#32 | 2 => 4#32 | 3 => 8#32 | 4 => 16#32 | 5 => 32#32 | 6 => 64#32 | 7 => 128#32
  | _ => 0#32

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S131072x8 .f32) (main_arg1 : FVec F S1366x8 .f32) (main_arg2 : FVec F S1366 .f32) (main_arg3 : IVec S1366 32) (main_arg4 : IVec S256 1) (main_arg5 : IVec S8 32) : IVec S_ 1 :=
  let main_c : IVec S8 32 := fun i => lit0 (S8.rowMajor i)
  let main_v0 : FVec F S131072x8 .f32 := Host.absf main_arg0
  let main_cst : FVec F S_ .f32 := constant S_ .f32 0x5368D4A5#32
  let main_v1 : FVec F S131072x8 .f32 := broadcastInDim S131072x8 ![] bcast_S_S131072x8 main_cst
  let main_v2 : IVec S131072x8 1 := cmpf .ole main_v0 main_v1
  let main_c_0 : IVec S_ 1 := constantI S_ 1 1#1
  let main_v3 : IVec S_ 1 := (fun x v => Host.reduce IntOp.andi x v reducesTo_S131072x8_S_d0_1 h_S_) main_v2 main_c_0
  let main_v4 : FVec F S1366x8 .f32 := Host.absf main_arg1
  let main_cst_1 : FVec F S_ .f32 := constant S_ .f32 0x5368D4A5#32
  let main_v5 : FVec F S1366x8 .f32 := broadcastInDim S1366x8 ![] bcast_S_S1366x8 main_cst_1
  let main_v6 : IVec S1366x8 1 := cmpf .ole main_v4 main_v5
  let main_c_2 : IVec S_ 1 := constantI S_ 1 1#1
  let main_v7 : IVec S_ 1 := (fun x v => Host.reduce IntOp.andi x v reducesTo_S1366x8_S_d0_1 h_S_) main_v6 main_c_2
  let main_v8 : IVec S_ 1 := andi main_v3 main_v7
  let main_v9 : FVec F S1366 .f32 := Host.absf main_arg2
  let main_cst_3 : FVec F S_ .f32 := constant S_ .f32 0x5368D4A5#32
  let main_v10 : FVec F S1366 .f32 := broadcastInDim S1366 ![] bcast_S_S1366 main_cst_3
  let main_v11 : IVec S1366 1 := cmpf .ole main_v9 main_v10
  let main_c_4 : IVec S_ 1 := constantI S_ 1 1#1
  let main_v12 : IVec S_ 1 := (fun x v => Host.reduce IntOp.andi x v reducesTo_S1366_S_d0 h_S_) main_v11 main_c_4
  let main_v13 : IVec S_ 1 := andi main_v8 main_v12
  let main_v14 : IVec S8 1 := cmpi .eq main_arg5 main_c
  let main_c_5 : IVec S_ 1 := constantI S_ 1 1#1
  let main_v15 : IVec S_ 1 := (fun x v => Host.reduce IntOp.andi x v reducesTo_S8_S_d0 h_S_) main_v14 main_c_5
  fn_part1 (F := F) main_v13 main_v15
-- ==== Kernel.lean ====
abbrev S131072x8 : Shape := ⟨2, ![131072, 8]⟩
abbrev S1366x8 : Shape := ⟨2, ![1366, 8]⟩
abbrev S1366 : Shape := ⟨1, ![1366]⟩
abbrev S256 : Shape := ⟨1, ![256]⟩
abbrev S8 : Shape := ⟨1, ![8]⟩
abbrev S_ : Shape := ⟨0, ![]⟩
abbrev S1366x1 : Shape := ⟨2, ![1366, 1]⟩
abbrev S8x1 : Shape := ⟨2, ![8, 1]⟩
abbrev S1408x16 : Shape := ⟨2, ![1408, 16]⟩
abbrev S1 : Shape := ⟨1, ![1]⟩
abbrev S2 : Shape := ⟨1, ![2]⟩
abbrev S42 : Shape := ⟨1, ![42]⟩
abbrev S16x1408 : Shape := ⟨2, ![16, 1408]⟩
abbrev S8x1366 : Shape := ⟨2, ![8, 1366]⟩
abbrev S8x131072 : Shape := ⟨2, ![8, 131072]⟩
abbrev S256x1x512 : Shape := ⟨3, ![256, 1, 512]⟩
abbrev S8x512 : Shape := ⟨2, ![8, 512]⟩
abbrev S1x1x512 : Shape := ⟨3, ![1, 1, 512]⟩
abbrev S512 : Shape := ⟨1, ![512]⟩
abbrev S1x512 : Shape := ⟨2, ![1, 512]⟩
abbrev S1408x8 : Shape := ⟨2, ![1408, 8]⟩
abbrev S1408x512 : Shape := ⟨2, ![1408, 512]⟩
abbrev S1408x1 : Shape := ⟨2, ![1408, 1]⟩
abbrev S16x512 : Shape := ⟨2, ![16, 512]⟩
abbrev S131072 : Shape := ⟨1, ![131072]⟩

abbrev nBuf : Space → Nat
  | .hbm => 128
  | .vmem => 8
  | .smem => 0
  | _ => 0

abbrev bufTy : (tb : Table) → Fin (tcTables nBuf tb) → BufTy
  | .hbm, ⟨0, _⟩ => ⟨S131072x8, .f32⟩
  | .hbm, ⟨1, _⟩ => ⟨S1366x8, .f32⟩
  | .hbm, ⟨2, _⟩ => ⟨S1366, .f32⟩
  | .hbm, ⟨3, _⟩ => ⟨S1366, .i32⟩
  | .hbm, ⟨4, _⟩ => ⟨S256, .i1⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S1366, .i32⟩
  | .hbm, ⟨9, _⟩ => ⟨S1366, .i1⟩
  | .hbm, ⟨10, _⟩ => ⟨S_, .i32⟩
  | .hbm, ⟨11, _⟩ => ⟨S1366, .i32⟩
  | .hbm, ⟨12, _⟩ => ⟨S1366, .i32⟩
  | .hbm, ⟨13, _⟩ => ⟨S1366, .i32⟩
  | .hbm, ⟨14, _⟩ => ⟨S1366x1, .i32⟩
  | .hbm, ⟨15, _⟩ => ⟨S1366, .i1⟩
  | .hbm, ⟨16, _⟩ => ⟨S1366, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S1366x8, .f32⟩
  | .hbm, ⟨26, _⟩ => ⟨S_, .f32⟩
  | .hbm, ⟨27, _⟩ => ⟨S1366x8, .f32⟩
  | .hbm, ⟨28, _⟩ => ⟨S1366x8, .i1⟩
  | .hbm, ⟨29, _⟩ => ⟨S1366x8, .i32⟩
  | .hbm, ⟨30, _⟩ => ⟨S1366x1, .i32⟩
  | .hbm, ⟨31, _⟩ => ⟨S1366, .i32⟩
  | .hbm, ⟨32, _⟩ => ⟨S_, .i32⟩
  | .hbm, ⟨33, _⟩ => ⟨S1366, .i32⟩
  | .hbm, ⟨34, _⟩ => ⟨S1366, .i32⟩
  | .hbm, ⟨35, _⟩ => ⟨S1366x1, .i32⟩
  | .hbm, ⟨36, _⟩ => ⟨S1366, .i32⟩
  | .hbm, ⟨37, _⟩ => ⟨S_, .i32⟩
  | .hbm, ⟨38, _⟩ => ⟨S1366, .i32⟩
  | .hbm, ⟨39, _⟩ => ⟨S1366, .i32⟩
  | .hbm, ⟨40, _⟩ => ⟨S1366, .i32⟩
  | .hbm, ⟨41, _⟩ => ⟨S1366x1, .i32⟩
  | .hbm, ⟨42, _⟩ => ⟨S1366, .i32⟩
  | .hbm, ⟨43, _⟩ => ⟨S_, .i32⟩
  | .hbm, ⟨44, _⟩ => ⟨S1366, .i32⟩
  | .hbm, ⟨45, _⟩ => ⟨S1366, .i32⟩
  | .hbm, ⟨46, _⟩ => ⟨S1366, .i32⟩
  | .hbm, ⟨47, _⟩ => ⟨S1366x1, .i32⟩
  | .hbm, ⟨48, _⟩ => ⟨S1366, .i32⟩
  | .hbm, ⟨49, _⟩ => ⟨S_, .i32⟩
  | .hbm, ⟨50, _⟩ => ⟨S1366, .i32⟩
  | .hbm, ⟨51, _⟩ => ⟨S1366, .i32⟩
  | .hbm, ⟨52, _⟩ => ⟨S1366, .i32⟩
  | .hbm, ⟨53, _⟩ => ⟨S1366x1, .i32⟩
  | .hbm, ⟨54, _⟩ => ⟨S1366, .i32⟩
  | .hbm, ⟨55, _⟩ => ⟨S_, .i32⟩
  | .hbm, ⟨56, _⟩ => ⟨S1366, .i32⟩
  | .hbm, ⟨57, _⟩ => ⟨S1366, .i32⟩
  | .hbm, ⟨58, _⟩ => ⟨S1366, .i32⟩
  | .hbm, ⟨59, _⟩ => ⟨S1366x1, .i32⟩
  | .hbm, ⟨60, _⟩ => ⟨S1366, .i32⟩
  | .hbm, ⟨61, _⟩ => ⟨S_, .i32⟩
  | .hbm, ⟨62, _⟩ => ⟨S1366, .i32⟩
  | .hbm, ⟨63, _⟩ => ⟨S1366, .i32⟩
  | .hbm, ⟨64, _⟩ => ⟨S1366, .i32⟩
  | .hbm, ⟨65, _⟩ => ⟨S1366x1, .i32⟩
  | .hbm, ⟨66, _⟩ => ⟨S1366, .i32⟩
  | .hbm, ⟨67, _⟩ => ⟨S_, .i32⟩
  | .hbm, ⟨68, _⟩ => ⟨S1366, .i32⟩
  | .hbm, ⟨69, _⟩ => ⟨S1366, .i32⟩
  | .hbm, ⟨70, _⟩ => ⟨S1366, .i32⟩
  | .hbm, ⟨71, _⟩ => ⟨S1366x1, .i32⟩
  | .hbm, ⟨72, _⟩ => ⟨S1366, .i32⟩
  | .hbm, ⟨73, _⟩ => ⟨S1366, .i32⟩
  | .hbm, ⟨74, _⟩ => ⟨S_, .i32⟩
  | .hbm, ⟨75, _⟩ => ⟨S1366, .i32⟩
  | .hbm, ⟨76, _⟩ => ⟨S1366, .i32⟩
  | .hbm, ⟨77, _⟩ => ⟨S1366, .i32⟩
  | .hbm, ⟨78, _⟩ => ⟨S_, .f32⟩
  | .hbm, ⟨79, _⟩ => ⟨S1408x16, .f32⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S2, .i32⟩
  | .hbm, ⟨85, _⟩ => ⟨S1408x16, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S1408x16, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S_, .f32⟩
  | .hbm, ⟨98, _⟩ => ⟨S42, .f32⟩
  | .hbm, ⟨99, _⟩ => ⟨S1408x16, .f32⟩
  | .hbm, ⟨100, _⟩ => ⟨S_, .f32⟩
  | .hbm, ⟨101, _⟩ => ⟨S16x1408, .f32⟩
  | .hbm, ⟨102, _⟩ => ⟨S8x1366, .f32⟩
  | .hbm, ⟨103, _⟩ => ⟨S_, .i32⟩
  | .hbm, ⟨104, _⟩ => ⟨S1, .i32⟩
  | .hbm, ⟨105, _⟩ => ⟨S_, .i32⟩
  | .hbm, ⟨106, _⟩ => ⟨S1, .i32⟩
  | .hbm, ⟨107, _⟩ => ⟨S2, .i32⟩
  | .hbm, ⟨108, _⟩ => ⟨S16x1408, .f32⟩
  | .hbm, ⟨109, _⟩ => ⟨S1366, .f32⟩
  | .hbm, ⟨110, _⟩ => ⟨S_, .i32⟩
  | .hbm, ⟨111, _⟩ => ⟨S1, .i32⟩
  | .hbm, ⟨112, _⟩ => ⟨S_, .i32⟩
  | .hbm, ⟨113, _⟩ => ⟨S1, .i32⟩
  | .hbm, ⟨114, _⟩ => ⟨S2, .i32⟩
  | .hbm, ⟨115, _⟩ => ⟨S16x1408, .f32⟩
  | .hbm, ⟨116, _⟩ => ⟨S1366, .f32⟩
  | .hbm, ⟨117, _⟩ => ⟨S_, .i32⟩
  | .hbm, ⟨118, _⟩ => ⟨S1, .i32⟩
  | .hbm, ⟨119, _⟩ => ⟨S_, .i32⟩
  | .hbm, ⟨120, _⟩ => ⟨S1, .i32⟩
  | .hbm, ⟨121, _⟩ => ⟨S2, .i32⟩
  | .hbm, ⟨122, _⟩ => ⟨S16x1408, .f32⟩
  | .hbm, ⟨123, _⟩ => ⟨S8x131072, .f32⟩
  | .hbm, ⟨124, _⟩ => ⟨S8x131072, .f32⟩
  | .hbm, ⟨125, _⟩ => ⟨S256x1x512, .i32⟩
  | .hbm, ⟨126, _⟩ => ⟨S131072x8, .f32⟩
  | .hbm, ⟨127, _⟩ => ⟨S131072, .i32⟩
  | .local _ .vmem, ⟨0, _⟩ => ⟨S8x512, .f32⟩
  | .local _ .vmem, ⟨1, _⟩ => ⟨S8x512, .f32⟩
  | .local _ .vmem, ⟨2, _⟩ => ⟨S1408x16, .f32⟩
  | .local _ .vmem, ⟨3, _⟩ => ⟨S16x1408, .f32⟩
  | .local _ .vmem, ⟨4, _⟩ => ⟨S8x512, .f32⟩
  | .local _ .vmem, ⟨5, _⟩ => ⟨S8x512, .f32⟩
  | .local _ .vmem, ⟨6, _⟩ => ⟨S1x1x512, .i32⟩
  | .local _ .vmem, ⟨7, _⟩ => ⟨S1x1x512, .i32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_c_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_c_18 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_v73 : Ref sig .tc := ⟨.hbm, 102, rfl⟩
abbrev main_c_21 : Ref sig .tc := ⟨.hbm, 103, rfl⟩
abbrev main_v74 : Ref sig .tc := ⟨.hbm, 104, rfl⟩
abbrev main_c_22 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_23 : Ref sig .tc := ⟨.hbm, 110, rfl⟩
abbrev main_v79 : Ref sig .tc := ⟨.hbm, 111, rfl⟩
abbrev main_c_24 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_25 : Ref sig .tc := ⟨.hbm, 117, rfl⟩
abbrev main_v84 : Ref sig .tc := ⟨.hbm, 118, rfl⟩
abbrev main_c_26 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89_0 : Ref sig .tc := ⟨.hbm, 124, rfl⟩
abbrev main_v89_1 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S131072x8 : Shape := ⟨2, ![131072, 8]⟩
abbrev S1366x8 : Shape := ⟨2, ![1366, 8]⟩
abbrev S1366 : Shape := ⟨1, ![1366]⟩
abbrev S256 : Shape := ⟨1, ![256]⟩
abbrev S8 : Shape := ⟨1, ![8]⟩
abbrev S_ : Shape := ⟨0, ![]⟩
abbrev S131072 : Shape := ⟨1, ![131072]⟩
abbrev S1x8 : Shape := ⟨2, ![1, 8]⟩
abbrev S131072x1 : Shape := ⟨2, ![131072, 1]⟩
abbrev S8x1366 : Shape := ⟨2, ![8, 1366]⟩
abbrev S131072x1366 : Shape := ⟨2, ![131072, 1366]⟩
abbrev S1x1366 : Shape := ⟨2, ![1, 1366]⟩
abbrev S8x1 : Shape := ⟨2, ![8, 1]⟩
abbrev S1 : Shape := ⟨1, ![1]⟩

abbrev nBuf : Space → Nat
  | .hbm => 301
  | .vmem => 0
  | .smem => 0
  | _ => 0

abbrev hbmTy0_0 (i : Nat) : BufTy := match i % 128 with
  | 0 => ⟨S131072x8, .f32⟩
  | 1 => ⟨S1366x8, .f32⟩
  | 2 => ⟨S1366, .f32⟩
  | 3 => ⟨S1366, .i32⟩
  | 4 => ⟨S256, .i1⟩
  | 5 => ⟨S8, .i32⟩
  | 6 => ⟨S8, .i32⟩
  | 7 => ⟨S8, .i32⟩
  | 8 => ⟨S_, .f32⟩
  | 9 => ⟨S131072x8, .f32⟩
  | 10 => ⟨S131072x8, .f32⟩
  | 11 => ⟨S131072x8, .f32⟩
  | 12 => ⟨S_, .f32⟩
  | 13 => ⟨S131072x8, .f32⟩
  | 14 => ⟨S131072x8, .i1⟩
  | 15 => ⟨S131072x8, .i32⟩
  | 16 => ⟨S_, .i32⟩
  | 17 => ⟨S131072, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i1⟩
  | 32 => ⟨S_, .i32⟩
  | 33 => ⟨S_, .i1⟩
  | 34 => ⟨S131072, .i1⟩
  | 35 => ⟨S131072, .i1⟩
  | 36 => ⟨S131072, .i1⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S8, .i32⟩
  | 44 => ⟨S_, .i32⟩
  | 45 => ⟨S8, .i32⟩
  | 46 => ⟨S8, .i1⟩
  | 47 => ⟨S1x8, .i1⟩
  | 48 => ⟨S131072x1, .i1⟩
  | 49 => ⟨S131072x8, .i1⟩
  | 50 => ⟨S131072x8, .i1⟩
  | 51 => ⟨S131072x8, .i1⟩
  | 52 => ⟨S131072x8, .f32⟩
  | 53 => ⟨S131072x8, .f32⟩
  | 54 => ⟨S131072x8, .f32⟩
  | 55 => ⟨S_, .f32⟩
  | 56 => ⟨S131072x8, .f32⟩
  | 57 => ⟨S131072x8, .f32⟩
  | 58 => ⟨S_, .f32⟩
  | 59 => ⟨S131072x8, .f32⟩
  | 60 => ⟨S131072x8, .f32⟩
  | 61 => ⟨S131072x8, .f32⟩
  | 62 => ⟨S131072x8, .f32⟩
  | 63 => ⟨S8x1366, .f32⟩
  | 64 => ⟨S131072x1366, .f32⟩
  | 65 => ⟨S_, .f32⟩
  | 66 => ⟨S131072x1366, .f32⟩
  | 67 => ⟨S131072x1366, .f32⟩
  | 68 => ⟨S1x1366, .f32⟩
  | 69 => ⟨S131072x1366, .f32⟩
  | 70 => ⟨S131072x1366, .f32⟩
  | 71 => ⟨S131072x1366, .i32⟩
  | 72 => ⟨S_, .f32⟩
  | 73 => ⟨S_, .i32⟩
  | 74 => ⟨S131072, .f32⟩
  | 75 => ⟨S131072, .i32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x8, .f32⟩
  | 85 => ⟨S131072x8, .f32⟩
  | 86 => ⟨S131072x8, .f32⟩
  | 87 => ⟨S131072x8, .f32⟩
  | 88 => ⟨S_, .f32⟩
  | 89 => ⟨S131072, .f32⟩
  | 90 => ⟨S131072, .f32⟩
  | 91 => ⟨S_, .i32⟩
  | 92 => ⟨S131072, .i32⟩
  | 93 => ⟨S131072, .i1⟩
  | 94 => ⟨S_, .i32⟩
  | 95 => ⟨S131072, .i32⟩
  | 96 => ⟨S131072, .i32⟩
  | 97 => ⟨S131072, .i32⟩
  | 98 => ⟨S131072x1, .i32⟩
  | 99 => ⟨S131072, .i32⟩
  | 100 => ⟨S_, .f32⟩
  | 101 => ⟨S131072x8, .f32⟩
  | 102 => ⟨S131072x8, .i1⟩
  | 103 => ⟨S_, .f32⟩
  | 104 => ⟨S131072x8, .f32⟩
  | 105 => ⟨S131072x8, .i1⟩
  | 106 => ⟨S131072x8, .i1⟩
  | 107 => ⟨S_, .i32⟩
  | 108 => ⟨S8, .i32⟩
  | 109 => ⟨S8, .i1⟩
  | 110 => ⟨S_, .i32⟩
  | 111 => ⟨S8, .i32⟩
  | 112 => ⟨S8, .i32⟩
  | 113 => ⟨S8, .i32⟩
  | 114 => ⟨S8x1, .i32⟩
  | 115 => ⟨S131072x8, .i1⟩
  | 116 => ⟨S131072x1, .i1⟩
  | 117 => ⟨S131072, .i1⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S131072x1, .i32⟩
  | 126 => ⟨S131072, .i1⟩
  | 127 => ⟨S131072, .i1⟩
  | _ => ⟨S131072x8, .f32⟩

abbrev hbmTy0_1 (i : Nat) : BufTy := match i % 128 with
  | 0 => ⟨S_, .i32⟩
  | 1 => ⟨S1, .i32⟩
  | 2 => ⟨S131072x8, .i1⟩
  | 3 => ⟨S131072x1, .i1⟩
  | 4 => ⟨S131072, .i1⟩
  | 5 => ⟨S_, .i1⟩
  | 6 => ⟨S131072, .i1⟩
  | 7 => ⟨S131072, .i1⟩
  | 8 => ⟨S_, .i32⟩
  | 9 => ⟨S1, .i32⟩
  | 10 => ⟨S131072x8, .i1⟩
  | 11 => ⟨S131072x8, .i32⟩
  | 12 => ⟨S1x8, .i32⟩
  | 13 => ⟨S131072x8, .i32⟩
  | 14 => ⟨S131072x8, .i32⟩
  | 15 => ⟨S_, .i32⟩
  | 16 => ⟨S131072, .i32⟩
  | 17 => ⟨S_, .i32⟩
  | 18 => ⟨S131072, .i32⟩
  | 19 => ⟨S131072, .i32⟩
  | 20 => ⟨S131072, .i32⟩
  | 21 => ⟨S_, .f32⟩
  | 22 => ⟨S131072x8, .f32⟩
  | 23 => ⟨S131072x8, .f32⟩
  | 24 => ⟨S131072x8, .f32⟩
  | 25 => ⟨S_, .f32⟩
  | 26 => ⟨S131072x8, .f32⟩
  | 27 => ⟨S131072x8, .i1⟩
  | 28 => ⟨S131072x8, .i32⟩
  | 29 => ⟨S_, .i32⟩
  | 30 => ⟨S131072, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S131072, .i32⟩
  | 38 => ⟨S131072, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i1⟩
  | 45 => ⟨S_, .i32⟩
  | 46 => ⟨S_, .i1⟩
  | 47 => ⟨S131072, .i1⟩
  | 48 => ⟨S131072, .i1⟩
  | 49 => ⟨S131072, .i1⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S8, .i32⟩
  | 57 => ⟨S_, .i32⟩
  | 58 => ⟨S8, .i32⟩
  | 59 => ⟨S8, .i1⟩
  | 60 => ⟨S1x8, .i1⟩
  | 61 => ⟨S131072x1, .i1⟩
  | 62 => ⟨S131072x8, .i1⟩
  | 63 => ⟨S131072x8, .i1⟩
  | 64 => ⟨S131072x8, .i1⟩
  | 65 => ⟨S131072x8, .f32⟩
  | 66 => ⟨S131072x8, .f32⟩
  | 67 => ⟨S131072x8, .f32⟩
  | 68 => ⟨S_, .f32⟩
  | 69 => ⟨S131072x8, .f32⟩
  | 70 => ⟨S131072x8, .f32⟩
  | 71 => ⟨S_, .f32⟩
  | 72 => ⟨S131072x8, .f32⟩
  | 73 => ⟨S131072x8, .f32⟩
  | 74 => ⟨S131072x8, .f32⟩
  | 75 => ⟨S131072x8, .f32⟩
  | 76 => ⟨S8x1366, .f32⟩
  | 77 => ⟨S131072x1366, .f32⟩
  | 78 => ⟨S_, .f32⟩
  | 79 => ⟨S131072x1366, .f32⟩
  | 80 => ⟨S131072x1366, .f32⟩
  | 81 => ⟨S1x1366, .f32⟩
  | 82 => ⟨S131072x1366, .f32⟩
  | 83 => ⟨S131072x1366, .f32⟩
  | 84 => ⟨S131072x1366, .i32⟩
  | 85 => ⟨S_, .f32⟩
  | 86 => ⟨S_, .i32⟩
  | 87 => ⟨S131072, .f32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x8, .f32⟩
  | 98 => ⟨S131072x8, .f32⟩
  | 99 => ⟨S131072x8, .f32⟩
  | 100 => ⟨S131072x8, .f32⟩
  | 101 => ⟨S_, .f32⟩
  | 102 => ⟨S131072, .f32⟩
  | 103 => ⟨S131072, .f32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072, .i32⟩
  | 113 => ⟨S_, .f32⟩
  | 114 => ⟨S131072x8, .f32⟩
  | 115 => ⟨S131072x8, .i1⟩
  | 116 => ⟨S_, .f32⟩
  | 117 => ⟨S131072x8, .f32⟩
  | 118 => ⟨S131072x8, .i1⟩
  | 119 => ⟨S131072x8, .i1⟩
  | 120 => ⟨S_, .i32⟩
  | 121 => ⟨S8, .i32⟩
  | 122 => ⟨S8, .i1⟩
  | 123 => ⟨S_, .i32⟩
  | 124 => ⟨S8, .i32⟩
  | 125 => ⟨S8, .i32⟩
  | 126 => ⟨S8, .i32⟩
  | 127 => ⟨S8x1, .i32⟩
  | _ => ⟨S131072x8, .f32⟩

abbrev hbmTy0_2 (i : Nat) : BufTy := match i % 128 with
  | 0 => ⟨S131072x8, .i1⟩
  | 1 => ⟨S131072x1, .i1⟩
  | 2 => ⟨S131072, .i1⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072, .i1⟩
  | 12 => ⟨S131072, .i1⟩
  | 13 => ⟨S_, .i32⟩
  | 14 => ⟨S1, .i32⟩
  | 15 => ⟨S131072x8, .i1⟩
  | 16 => ⟨S131072x1, .i1⟩
  | 17 => ⟨S131072, .i1⟩
  | 18 => ⟨S_, .i1⟩
  | 19 => ⟨S131072, .i1⟩
  | 20 => ⟨S131072, .i1⟩
  | 21 => ⟨S_, .i32⟩
  | 22 => ⟨S1, .i32⟩
  | 23 => ⟨S131072x8, .i1⟩
  | 24 => ⟨S131072x8, .i32⟩
  | 25 => ⟨S1x8, .i32⟩
  | 26 => ⟨S131072x8, .i32⟩
  | 27 => ⟨S131072x8, .i32⟩
  | 28 => ⟨S_, .i32⟩
  | 29 => ⟨S131072, .i32⟩
  | 30 => ⟨S_, .i32⟩
  | 31 => ⟨S131072, .i32⟩
  | 32 => ⟨S131072, .i32⟩
  | 33 => ⟨S131072, .i32⟩
  | 34 => ⟨S131072, .i1⟩
  | 35 => ⟨S131072x1, .i1⟩
  | 36 => ⟨S_, .f32⟩
  | 37 => ⟨S131072x8, .f32⟩
  | 38 => ⟨S131072x8, .f32⟩
  | 39 => ⟨S_, .f32⟩
  | 40 => ⟨S131072x8, .f32⟩
  | 41 => ⟨S131072x8, .f32⟩
  | 42 => ⟨S131072x8, .i1⟩
  | 43 => ⟨S131072x8, .f32⟩
  | 44 => ⟨S131072, .i32⟩
  | _ => ⟨S131072x8, .f32⟩

abbrev hbmTy (i : Nat) : BufTy := match i / 128 with
  | 0 => hbmTy0_0 i
  | 1 => hbmTy0_1 i
  | 2 => hbmTy0_2 i
  | _ => ⟨S131072x8, .f32⟩

abbrev bufTy : (tb : Table) → Fin (tcTables nBuf tb) → BufTy
  | .hbm, ⟨i, _⟩ => hbmTy i
  | _, _ => ⟨S131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v7 : Ref sig .tc := ⟨.hbm, 39, rfl⟩
abbrev main_c_4 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c_5 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_6 : Ref sig .tc := ⟨.hbm, 55, rfl⟩
abbrev main_v21 : Ref sig .tc := ⟨.hbm, 56, rfl⟩
abbrev main_v22 : Ref sig .tc := ⟨.hbm, 57, rfl⟩
abbrev main_cst_7 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_8 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call3_v0 : Ref sig .tc := ⟨.hbm, 71, rfl⟩
abbrev main_call3_cst : Ref sig .tc := ⟨.hbm, 72, rfl⟩
abbrev main_call3_c : Ref sig .tc := ⟨.hbm, 73, rfl⟩
abbrev main_call3_v1_0 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_c_10 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_c_13 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_14 : Ref sig .tc := ⟨.hbm, 100, rfl⟩
abbrev main_v54 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_c_16 : Ref sig .tc := ⟨.hbm, 107, rfl⟩
abbrev main_v59 : Ref sig .tc := ⟨.hbm, 108, rfl⟩
abbrev main_v60 : Ref sig .tc := ⟨.hbm, 109, rfl⟩
abbrev main_c_17 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_18 : Ref sig .tc := ⟨.hbm, 118, rfl⟩
abbrev main_v68 : Ref sig .tc := ⟨.hbm, 119, rfl⟩
abbrev main_v69 : Ref sig .tc := ⟨.hbm, 120, rfl⟩
abbrev main_c_19 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_20 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_21 : Ref sig .tc := ⟨.hbm, 133, rfl⟩
abbrev main_v80 : Ref sig .tc := ⟨.hbm, 134, rfl⟩
abbrev main_v81 : Ref sig .tc := ⟨.hbm, 135, rfl⟩
abbrev main_c_22 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_23 : Ref sig .tc := ⟨.hbm, 143, rfl⟩
abbrev main_v88 : Ref sig .tc := ⟨.hbm, 144, rfl⟩
abbrev main_c_24 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_25 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_26 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_c_27 : Ref sig .tc := ⟨.hbm, 157, rfl⟩
abbrev main_v98 : Ref sig .tc := ⟨.hbm, 158, rfl⟩
abbrev main_c_28 : Ref sig .tc := ⟨.hbm, 159, rfl⟩
abbrev main_call4_v0 : Ref sig .tc := ⟨.hbm, 160, rfl⟩
abbrev main_call4_c : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_c_1 : Ref sig .tc := ⟨.hbm, 167, rfl⟩
abbrev main_call4_v5 : Ref sig .tc := ⟨.hbm, 168, rfl⟩
abbrev main_call4_v6 : Ref sig .tc := ⟨.hbm, 169, rfl⟩
abbrev main_call4_c_2 : Ref sig .tc := ⟨.hbm, 170, rfl⟩
abbrev main_call4_v7 : Ref sig .tc := ⟨.hbm, 171, rfl⟩
abbrev main_call4_v8 : Ref sig .tc := ⟨.hbm, 172, rfl⟩
abbrev main_call4_c_3 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_v99 : Ref sig .tc := ⟨.hbm, 180, rfl⟩
abbrev main_c_29 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_c_30 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_31 : Ref sig .tc := ⟨.hbm, 196, rfl⟩
abbrev main_v113 : Ref sig .tc := ⟨.hbm, 197, rfl⟩
abbrev main_v114 : Ref sig .tc := ⟨.hbm, 198, rfl⟩
abbrev main_cst_32 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_cst_33 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_call7_v0 : Ref sig .tc := ⟨.hbm, 212, rfl⟩
abbrev main_call7_cst : Ref sig .tc := ⟨.hbm, 213, rfl⟩
abbrev main_call7_c : Ref sig .tc := ⟨.hbm, 214, rfl⟩
abbrev main_call7_v1_0 : Ref sig .tc := ⟨.hbm, 215, rfl⟩
abbrev main_v126 : Ref sig .tc := ⟨.hbm, 216, rfl⟩
abbrev main_c_34 : Ref sig .tc := ⟨.hbm, 217, rfl⟩
abbrev main_v127 : Ref sig .tc := ⟨.hbm, 218, rfl⟩
abbrev main_v128 : Ref sig .tc := ⟨.hbm, 219, rfl⟩
abbrev main_c_35 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_36 : Ref sig .tc := ⟨.hbm, 229, rfl⟩
abbrev main_v137 : Ref sig .tc := ⟨.hbm, 230, rfl⟩
abbrev main_v138 : Ref sig .tc := ⟨.hbm, 231, rfl⟩
abbrev main_c_37 : Ref sig .tc := ⟨.hbm, 232, rfl⟩
abbrev main_v139 : Ref sig .tc := ⟨.hbm, 233, rfl⟩
abbrev main_v140 : Ref sig .tc := ⟨.hbm, 234, rfl⟩
abbrev main_c_38 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_cst_39 : Ref sig .tc := ⟨.hbm, 241, rfl⟩
abbrev main_v146 : Ref sig .tc := ⟨.hbm, 242, rfl⟩
abbrev main_v147 : Ref sig .tc := ⟨.hbm, 243, rfl⟩
abbrev main_cst_40 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_c_41 : Ref sig .tc := ⟨.hbm, 248, rfl⟩
abbrev main_v151 : Ref sig .tc := ⟨.hbm, 249, rfl⟩
abbrev main_v152 : Ref sig .tc := ⟨.hbm, 250, rfl⟩
abbrev main_c_42 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_c_43 : Ref sig .tc := ⟨.hbm, 259, rfl⟩
abbrev main_v160 : Ref sig .tc := ⟨.hbm, 260, rfl⟩
abbrev main_v161 : Ref sig .tc := ⟨.hbm, 261, rfl⟩
abbrev main_c_44 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_c_45 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_c_46 : Ref sig .tc := ⟨.hbm, 274, rfl⟩
abbrev main_v172 : Ref sig .tc := ⟨.hbm, 275, rfl⟩
abbrev main_v173 : Ref sig .tc := ⟨.hbm, 276, rfl⟩
abbrev main_c_47 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_c_48 : Ref sig .tc := ⟨.hbm, 284, rfl⟩
abbrev main_v180 : Ref sig .tc := ⟨.hbm, 285, rfl⟩
abbrev main_c_49 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_cst_50 : Ref sig .tc := ⟨.hbm, 292, rfl⟩
abbrev main_v186 : Ref sig .tc := ⟨.hbm, 293, rfl⟩
abbrev main_v187 : Ref sig .tc := ⟨.hbm, 294, rfl⟩
abbrev main_cst_51 : Ref sig .tc := ⟨.hbm, 295, rfl⟩
abbrev main_v188 : Ref sig .tc := ⟨.hbm, 296, rfl⟩
abbrev main_v189 : Ref sig .tc := ⟨.hbm, 297, rfl⟩
abbrev main_call8_v0 : Ref sig .tc := ⟨.hbm, 298, rfl⟩
abbrev main_v190 : Ref sig .tc := ⟨.hbm, 299, rfl⟩
abbrev main_v191 : Ref sig .tc := ⟨.hbm, 300, rfl⟩

abbrev nD : Nat := 1
abbrev τ : Topo := Topo.v7x

variable {F : FTy → Type} [FloatOps F]
-- ==== Proof.Spec.lean ====
/- What both programs compute for one row, as mathematics over the extended reals and machine words. -/
module

public import Idealize.ShloMosaic.Lib.Pointwise
public import Idealize.ShloMosaic.Lib.WordCmp

@[expose] public section

set_option maxRecDepth 16384

noncomputable section

namespace Cert.Spec

open Idealize.ShloMosaic

/-! ## Sign bits and their parity -/

/-- The sign bit of a number: whether it is below zero. -/
def below (a : EReal) : BitVec 1 := BitVec.ofBool (decide (a < 0))

/-- The sign bits of a row. -/
def neg (x : Fin 8 → EReal) (k : Fin 8) : BitVec 1 := below (x k)

/-- The parity of eight bits. -/
def odd (n : Fin 8 → BitVec 1) : BitVec 1 := n 0 ^^^ n 1 ^^^ n 2 ^^^ n 3 ^^^ n 4 ^^^ n 5 ^^^ n 6 ^^^ n 7

/-- A bit as a word. -/
abbrev wide (b : BitVec 1) : BitVec 32 := b.setWidth 32

/-- The sum of eight bits as words. -/
def ones (n : Fin 8 → BitVec 1) : BitVec 32 :=
  wide (n 0) + (wide (n 1) + (wide (n 2) + (wide (n 3) + (wide (n 4) + (wide (n 5) + (wide (n 6) + wide (n 7)))))))

/-- Whether the sign at coordinate `k` is flipped: the last coordinate of a row of odd parity. -/
def turned (n : Fin 8 → BitVec 1) (k : Fin 8) : Prop := k = 7 ∧ odd n = 1#1

instance (n : Fin 8 → BitVec 1) (k : Fin 8) : Decidable (turned n k) := inferInstanceAs (Decidable (_ ∧ _))

/-- The unsigned row, its last coordinate negated where the parity is odd. -/
def part (x : Fin 8 → EReal) (k : Fin 8) : EReal :=
  if turned (neg x) k then -(max (x k) (-(x k))) else max (x k) (-(x k))

/-- The sign that a bit stands for. -/
def unit (b : BitVec 1) : EReal := if b = 1#1 then -1 else 1

/-- The signs of a row, the last one flipped where the parity is odd. -/
def sign (n : Fin 8 → BitVec 1) (k : Fin 8) : EReal := if turned n k then -(unit (n k)) else unit (n k)

/-! ## The nearest row of the codebook -/

/-- The score of row `g` of squared norm `m` against the row `x`. -/
def score (g : Fin 8 → EReal) (m : EReal) (x : Fin 8 → EReal) : EReal := 2 * (∑ k, part x k * g k) - m

/-- `q` is the first index at which `s` is greatest. -/
def IsTop {n : ℕ} (s : Fin n → EReal) (q : Fin n) : Prop := (∀ j, s j ≤ s q) ∧ ∀ j, s j = s q → q ≤ j

/-- Every family over a nonempty range has a first greatest index. -/
theorem exists_top {n : ℕ} (s : Fin (n + 1) → EReal) : ∃ q, IsTop s q := by
  obtain ⟨m, -, hm⟩ := Finset.exists_max_image Finset.univ s ⟨0, Finset.mem_univ _⟩
  obtain ⟨q, hq, hmin⟩ := Finset.exists_min_image (Finset.univ.filter fun j => s j = s m) id ⟨m, by simp⟩
  have e : s q = s m := (Finset.mem_filter.1 hq).2
  exact ⟨q, fun j => e ▸ hm j (Finset.mem_univ _), fun j hj => hmin j (Finset.mem_filter.2 ⟨Finset.mem_univ _, hj.trans e⟩)⟩

/-- There is only one first greatest index. -/
theorem IsTop.unique {n : ℕ} {s : Fin n → EReal} {p q : Fin n} (hp : IsTop s p) (hq : IsTop s q) : p = q :=
  le_antisymm (hp.2 q (le_antisymm (hp.1 q) (hq.1 p))) (hq.2 p (le_antisymm (hq.1 p) (hp.1 q)))

/-- The first index at which `s` is greatest. -/
def top (s : Fin 1366 → EReal) : Fin 1366 := (exists_top (n := 1365) s).choose

/-- `top` is the first greatest index. -/
theorem isTop_top (s : Fin 1366 → EReal) : IsTop s (top s) := (exists_top (n := 1365) s).choose_spec

/-- The codebook row chosen for `x`. -/
def near (g : Fin 1366 → Fin 8 → EReal) (m : Fin 1366 → EReal) (x : Fin 8 → EReal) : Fin 1366 := top fun j => score (g j) (m j) x

/-- The quantised row: the chosen codebook row with the signs of `x`. -/
def val (g : Fin 1366 → Fin 8 → EReal) (m : Fin 1366 → EReal) (x : Fin 8 → EReal) (k : Fin 8) : EReal :=
  g (near g m x) k * sign (neg x) k

/-- The squared distance of `x` from its quantised row. -/
def err (g : Fin 1366 → Fin 8 → EReal) (m : Fin 1366 → EReal) (x : Fin 8 → EReal) : EReal :=
  ∑ k, (x k - val g m x k) * (x k - val g m x k)

/-! ## Code words -/

/-- Eight bits as a byte in a word, bit `i` of weight `2 ^ i`. -/
def pack (b : Fin 8 → BitVec 1) : BitVec 32 :=
  wide (b 0) * 1#32 + (wide (b 1) * 2#32 + (wide (b 2) * 4#32 + (wide (b 3) * 8#32 + (wide (b 4) * 16#32 + (wide (b 5) * 32#32
    + (wide (b 6) * 64#32 + wide (b 7) * 128#32))))))

/-- The coordinate whose sign bit `i` of a code word holds. -/
def perm : Fin 8 → Fin 8 := ![0, 2, 4, 6, 1, 3, 5, 7]

/-- Bit `i` of a code word's low byte: the signs of the codebook row and of the mask compared, bit 7 corrected by the code's
    parity `a` and bit 0 by the shift's bit `p`. -/
def bit (r : Fin 8 → EReal) (n : Fin 8 → BitVec 1) (a p : BitVec 1) (i : Fin 8) : BitVec 1 :=
  (below (r (perm i)) ^^^ below (sign n (perm i))) ^^^ ((if i = 7 then a else 0#1) ^^^ if i = 0 then p else 0#1)

/-- The row number of a table of 256 entries that a word names: a negative word counts from the end, and all are cut to the table. -/
def slot (c : BitVec 32) : Fin 256 :=
  ⟨min (Scalar.select (IntOp.cmpi .slt c 0#32) (IntOp.addi c 256#32) c).toInt.toNat 255, by omega⟩

/-- The code word of `x`. -/
def word (g : Fin 1366 → Fin 8 → EReal) (m : Fin 1366 → EReal) (code : Fin 1366 → BitVec 32) (par : Fin 256 → BitVec 1)
    (p : BitVec 1) (x : Fin 8 → EReal) : BitVec 32 :=
  code (near g m x) <<< 8 + pack (bit (g (near g m x)) (neg x) (par (slot (code (near g m x)))) p)

/-! ## The two shifts and the choice between them -/

/-- A quarter. -/
abbrev quarter : EReal := Ideal.ofBits .f32 0x3E800000#32

/-- The row moved up by a quarter. -/
def up (x : Fin 8 → EReal) (k : Fin 8) : EReal := x k + quarter

/-- The row moved down by a quarter. -/
def down (x : Fin 8 → EReal) (k : Fin 8) : EReal := x k - quarter

/-- The row's quantised value: that of the shift whose error is less. -/
def outV (g : Fin 1366 → Fin 8 → EReal) (m : Fin 1366 → EReal) (x : Fin 8 → EReal) (k : Fin 8) : EReal :=
  if err g m (up x) < err g m (down x) then val g m (up x) k - quarter else val g m (down x) k + quarter

/-- The row's code word: that of the shift whose error is less. -/
def outI (g : Fin 1366 → Fin 8 → EReal) (m : Fin 1366 → EReal) (code : Fin 1366 → BitVec 32) (par : Fin 256 → BitVec 1)
    (x : Fin 8 → EReal) : BitVec 32 :=
  if err g m (up x) < err g m (down x) then word g m code par 1#1 (up x) else word g m code par 0#1 (down x)

/-! ## Lemmas on bits and words -/

/-- A fold of word additions over eight entries, written out. -/
theorem fold_eight (b : BitVec 32) (f : Fin 8 → BitVec 32) :
    Finset.univ.fold IntOp.addi b f = f 0 + (f 1 + (f 2 + (f 3 + (f 4 + (f 5 + (f 6 + (f 7 + b))))))) := rfl

/-- The low bit of the number of set bits is their parity. -/
theorem ones_and_one (n : Fin 8 → BitVec 1) : IntOp.andi (ones n) 1#32 = wide (odd n) := by
  have h : ∀ a b c d e f g h : BitVec 1,
      (wide a + (wide b + (wide c + (wide d + (wide e + (wide f + (wide g + wide h))))))) &&& 1#32
        = wide (a ^^^ b ^^^ c ^^^ d ^^^ e ^^^ f ^^^ g ^^^ h) := by decide +kernel
  exact h _ _ _ _ _ _ _ _

/-- The bits of two bytes compared are the two packed bytes compared. -/
theorem pack_xor (a b : Fin 8 → BitVec 1) : pack a ^^^ pack b = pack fun i => a i ^^^ b i := by
  have e : ∀ b0 b1 b2 b3 b4 b5 b6 b7 : BitVec 1, wide b0 * 1#32 + (wide b1 * 2#32 + (wide b2 * 4#32 + (wide b3 * 8#32 + (wide b4 * 16#32
      + (wide b5 * 32#32 + (wide b6 * 64#32 + wide b7 * 128#32)))))) = (b7 ++ b6 ++ b5 ++ b4 ++ b3 ++ b2 ++ b1 ++ b0).setWidth 32 := by
    decide +kernel
  unfold pack
  rw [e, e, e, ← BitVec.setWidth_xor]
  simp only [BitVec.xor_append]

/-- A packed byte, as a byte widened. -/
theorem pack_low (b : Fin 8 → BitVec 1) : ∃ v : BitVec 8, pack b = v.setWidth 32 := by
  have e : ∀ b0 b1 b2 b3 b4 b5 b6 b7 : BitVec 1, wide b0 * 1#32 + (wide b1 * 2#32 + (wide b2 * 4#32 + (wide b3 * 8#32 + (wide b4 * 16#32
      + (wide b5 * 32#32 + (wide b6 * 64#32 + wide b7 * 128#32)))))) = (b7 ++ b6 ++ b5 ++ b4 ++ b3 ++ b2 ++ b1 ++ b0).setWidth 32 := by
    decide +kernel
  exact ⟨_, e _ _ _ _ _ _ _ _⟩

/-- Setting a packed byte under a code moved up by eight places is adding it. -/
theorem or_pack (c : BitVec 32) (b : Fin 8 → BitVec 1) : c <<< 8 ||| pack b = c <<< 8 + pack b := by
  obtain ⟨v, hv⟩ := pack_low b
  rw [hv]
  refine (BitVec.add_eq_or_of_and_eq_zero _ _ ?_).symm
  ext i hi
  simp only [BitVec.getElem_and, BitVec.getElem_shiftLeft, BitVec.getElem_setWidth, BitVec.getElem_zero]
  by_cases h : i < 8
  · simp [h]
  · simp [BitVec.getLsbD_of_ge v i (by omega)]

/-- The sign bit of a mask's entry. -/
theorem below_sign (n : Fin 8 → BitVec 1) (k : Fin 8) : below (sign n k) = n k ^^^ if k = 7 then odd n else 0#1 := by
  have h0 : ¬ (1 : EReal) < 0 := not_lt.2 zero_le_one
  have h1 : ∀ b : BitVec 1, below (unit b) = b := by
    intro b
    rcases (by decide +revert : b = 0#1 ∨ b = 1#1) with rfl | rfl <;> simp [below, unit, h0]
  have h2 : ∀ b : BitVec 1, below (-(unit b)) = b ^^^ 1#1 := by
    intro b
    rcases (by decide +revert : b = 0#1 ∨ b = 1#1) with rfl | rfl <;> simp [below, unit, h0]
  have h3 : ∀ b : BitVec 1, b ≠ 1#1 → b = 0#1 := by decide
  unfold sign
  by_cases hk : k = 7
  · by_cases ho : odd n = 1#1
    · rw [if_pos (show turned n k from ⟨hk, ho⟩), h2, if_pos hk, ho]
    · rw [if_neg fun h : turned n k => ho h.2, h1, if_pos hk, h3 _ ho, BitVec.xor_zero]
  · rw [if_neg fun h : turned n k => hk h.1, h1, if_neg hk, BitVec.xor_zero]

/-- One less twice a bit is the sign that the bit stands for. -/
theorem one_sub_two_mul (b : BitVec 1) : (1 : EReal) - 2 * ((b.toNat : ℝ) : EReal) = unit b := by
  rcases (by decide +revert : b = 0#1 ∨ b = 1#1) with rfl | rfl
  · simp [unit]
  · have : (2 : EReal) = ((2 : ℝ) : EReal) := rfl
    simp only [unit, if_true, BitVec.toNat_ofNat, this]
    norm_cast
    norm_num

/-- The constant two. -/
theorem ofBits_two : Ideal.ofBits .f32 0x40000000#32 = 2 := by
  have h : ((2 : ℝ) : EReal) = 2 := rfl
  rw [← h]
  simp [Ideal.ofBits, Ideal.ieee, -EReal.coe_mul]
  norm_num

/-- The kernel's constant for minus a quarter. -/
theorem ofBits_neg_quarter : Ideal.ofBits .f32 0xBE800000#32 = -quarter := by
  simp [Ideal.ofBits, Ideal.ieee]

end Cert.Spec

end
-- ==== Proof.Movement.lean ====
/- Rows of arrays, and gathers, scatters and the arg-max read at an index. -/
module

public import proofs.«01_k».proof.Proof.Spec
public import Idealize.ShloMosaic.Lib.Pointwise
public import Idealize.ShloMosaic.Lib.WordCmp
public import Idealize.ShloMosaic.Lib.Routing.OpsOne

@[expose] public section

set_option maxRecDepth 16384

noncomputable section

namespace Cert

open Idealize.ShloMosaic Idealize.ShloMosaic.Routing

/-- Row `r` of a matrix. -/
abbrev row {α : Type} {R C : ℕ} (x : (shape2 R C).Idx → α) (r : Fin R) (k : Fin C) : α := x (ix2 r k)

/-- Column `c` of a matrix. -/
abbrev col {α : Type} {R C : ℕ} (x : (shape2 R C).Idx → α) (c : Fin C) (k : Fin R) : α := x (ix2 k c)

/-- The entries of a vector. -/
abbrev ent {α : Type} {R : ℕ} (x : (shape1 R).Idx → α) (r : Fin R) : α := x (ix1 r)

/-! ## Elementwise operations at an index, of operands that stay closed -/

variable {s : Shape} (A B C : FVec Ideal s .f32) (i : s.Idx)

/-- A constant, at an index. -/
theorem constant_at (b : BitVec 32) : constant (F := Ideal) s .f32 b i = Ideal.ofBits .f32 b := rfl

/-- A difference, at an index. -/
theorem sub_at : subf A B i = A i - B i := rfl

/-- A sum, at an index. -/
theorem add_at : addf A B i = A i + B i := rfl

/-- A product, at an index. -/
theorem mul_at : mulf A B i = A i * B i := rfl

/-- A square root, at an index. -/
theorem sqrt_at : Host.sqrt A i = Ideal.sqrt (A i) := rfl

/-- An ordered comparison by less, at an index. -/
theorem olt_at : cmpf .olt A B i = BitVec.ofBool (decide (A i < B i)) := rfl

/-- A choice, at an index. -/
theorem choose_at {α : Type} (c : IVec s 1) (x y : s.Idx → α) : select c x y i = Scalar.select (c i) (x i) (y i) := rfl

/-- The wrap of a row number that is not negative is that number. -/
theorem wrap_ofNat (n b : ℕ) (hn : n < 2 ^ 31) :
    Scalar.select (IntOp.cmpi .slt (BitVec.ofNat 32 n) 0#32) (IntOp.addi (BitVec.ofNat 32 n) (BitVec.ofNat 32 b)) (BitVec.ofNat 32 n)
      = BitVec.ofNat 32 n := by
  have h : IntOp.cmpi .slt (BitVec.ofNat 32 n) 0#32 = BitVec.ofBool (decide ((BitVec.ofNat 32 n).toInt < (0#32).toInt)) := rfl
  rw [h, StableHlo.Predicate.toInt_ofNat_small _ hn, WordCmp.select_decide, if_neg]
  simp

/-- `table[:, idx]` over the columns of a table: where `idx` holds at `(y, 0)` a column number `b`, entry `(c, y)` of the result is
    the table's entry `(c, b)`. -/
theorem gather_column {α : Type} {nb B n : Nat} (d : GatherDims (shape2 nb B) (shape2 n 1) (shape2 nb n)) (hoff : d.offsetDims = [0])
    (hcoll : d.collapsedSliceDims = [1]) (hob : d.operandBatchingDims = []) (hsim : d.startIndexMap = [1]) (hivd : d.indexVectorDim = 1)
    (x : (shape2 nb B).Idx → α) (idx : IVec (shape2 n 1) 32) (c : Fin nb) (y : Fin n) (b : Fin B)
    (hb : (idx (ix2 y (0 : Fin 1))).toInt.toNat = b.val) : Host.gather d x idx (ix2 c y) = x (ix2 c b) := by
  unfold Host.gather
  refine congrArg x (funext fun a => Fin.ext ?_)
  have none : ∀ a', a' ∉ d.operandBatchingDims := fun a' => by rw [hob]; exact List.not_mem_nil
  have batch : ∀ k ∈ d.batchDims, k = (1 : Fin 2) := fun k hk => by
    have h := of_decide_eq_true (List.mem_filter.1 hk).2
    rw [hoff, List.mem_singleton] at h
    fin_cases k
    · exact absurd rfl h
    · rfl
  have offs : ∀ k ∈ d.offsetDims, k = (0 : Fin 2) := fun k hk => by rw [hoff] at hk; exact List.mem_singleton.1 hk
  have at0 : ∀ k : Fin 2, k = 0 → (ix2 c y k).val = c.val := fun k h => by subst h; rfl
  have at1 : ∀ k : Fin 2, k = 1 → (ix2 c y k).val = y.val := fun k h => by subst h; rfl
  match a with
  | ⟨0, _⟩ =>
    have hk : (0 : Fin 2) ∈ d.sKept := (d.mem_sKept 0).2 ⟨by rw [hcoll]; simp, none 0⟩
    have hm : (0 : Fin 2) ∉ d.startIndexMap := by rw [hsim]; simp
    show d.start (ix2 c y) idx 0 + d.batchCoord (ix2 c y) 0 + d.offCoord (ix2 c y) 0 = c.val
    rw [d.batchCoord_eq_zero _ _ (none 0), Nat.add_zero]
    unfold GatherDims.start GatherDims.offCoord
    rw [dif_neg hm, dif_pos hk, Nat.zero_add]
    exact at0 _ (offs _ (List.getElem_mem _))
  | ⟨1, _⟩ =>
    have hk : (1 : Fin 2) ∉ d.sKept := fun h => ((d.mem_sKept 1).1 h).1 (by rw [hcoll]; simp)
    have hm : (1 : Fin 2) ∈ d.startIndexMap := by rw [hsim]; simp
    have hsl : d.sliceSizes 1 = 1 := d.slice_collapsed 1 (by rw [hcoll]; simp)
    show d.start (ix2 c y) idx 1 + d.batchCoord (ix2 c y) 1 + d.offCoord (ix2 c y) 1 = b.val
    rw [d.batchCoord_eq_zero _ _ (none 1), d.offCoord_eq_zero _ _ hk, Nat.add_zero]
    unfold GatherDims.start
    rw [dif_pos hm]
    have hsi : d.siIdx (ix2 c y) ⟨d.startIndexMap.idxOf 1, List.idxOf_lt_length_iff.2 hm⟩ = ix2 y (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact at1 _ (batch _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl]
    show min b.val (B - 1) = b.val
    omega

/-- `table[idx]` over a vector, whatever `idx` holds: its word read signed and cut to the table. -/
theorem gather_entry {α : Type} {N n : Nat} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (idx : IVec (shape2 n 1) 32) (p : Fin n) (hN : 0 < N) :
    Host.gather d x idx (ix1 p) = x (ix1 ⟨min (idx (ix2 p (0 : Fin 1))).toInt.toNat (N - 1), by omega⟩) := by
  have h := StableHlo.Predicate.gather_take d hcoll hob hsim hivd x idx p hN
  simp only [ixP_eq_ix2, ofFin_eq_ix1] at h
  exact h

/-- `x.at[:, k].set(u)` read at an entry: column `k` is `u`, every other entry the matrix's. -/
theorem scatter_column {α : Type} {A N : Nat} (d : ScatterDims (shape2 A N) (shape1 1) (shape1 A)) (hiw : d.insertedWindowDims = [1])
    (hsd : d.scatterDimsToOperandDims = [1]) (x : (shape2 A N).Idx → α) (idx : IVec (shape1 1) 32) (u : (shape1 A).Idx → α)
    (k : Fin N) (hk : (idx (ix1 0)).toInt = (k.val : Int)) (r : Fin A) (c : Fin N) :
    Host.scatter d (fun _ b => b) x idx u (ix2 r c) = if c = k then u (ix1 r) else x (ix2 r c) := by
  have lands : ∀ j : (shape1 A).Idx, d.resultIdx? j idx = some (ix2 r c) → j = ix1 r ∧ c = k := fun j hj => by
    have h := (lands_col d hiw hsd idx k hk (j 0) r c).1 ((congrArg (fun t => d.resultIdx? t idx) (eq_ix1 j).symm).trans hj)
    exact ⟨(eq_ix1 j).trans (congrArg ix1 h.1), h.2⟩
  by_cases h : c = k
  · rw [if_pos h]
    exact scatter_set_hit d x idx u _ _ (fun j hj => congrArg u (lands j hj).1) (ix1 r) ((lands_col d hiw hsd idx k hk r r c).2 ⟨rfl, h⟩)
  · rw [if_neg h]
    exact scatter_set_miss d x idx u _ fun j hj => h (lands j hj).2

/-! ## The first greatest index, as the two programs compute it -/

/-- One step of an arg-max over pairs of a value and an index word: the greater value wins, the lesser index among equal values. -/
structure PicksBetter (f : EReal × BitVec 32 → EReal × BitVec 32 → EReal × BitVec 32) : Prop where
  left : ∀ a b, b.1 < a.1 ∨ (a.1 = b.1 ∧ a.2.toInt < b.2.toInt) → f a b = a
  right : ∀ a b, ¬(b.1 < a.1 ∨ (a.1 = b.1 ∧ a.2.toInt < b.2.toInt)) → f a b = b

/-- A fold of such steps ends at one of its pairs, of no lesser value than any of them and of no greater index than any of its value. -/
theorem foldl_best {f : EReal × BitVec 32 → EReal × BitVec 32 → EReal × BitVec 32} (hf : PicksBetter f) (l : List (EReal × BitVec 32))
    (a : EReal × BitVec 32) :
    (l.foldl f a = a ∨ l.foldl f a ∈ l) ∧ (∀ p, p = a ∨ p ∈ l → p.1 ≤ (l.foldl f a).1)
      ∧ ∀ p, p = a ∨ p ∈ l → p.1 = (l.foldl f a).1 → (l.foldl f a).2.toInt ≤ p.2.toInt := by
  induction l generalizing a with
  | nil => exact ⟨.inl rfl, by rintro p (rfl | h); exacts [le_rfl, nomatch h], by rintro p (rfl | h) _; exacts [le_rfl, nomatch h]⟩
  | cons b l ih =>
    rw [List.foldl_cons]
    obtain ⟨h1, h2, h3⟩ := ih (f a b)
    by_cases h : b.1 < a.1 ∨ (a.1 = b.1 ∧ a.2.toInt < b.2.toInt)
    · rw [hf.left a b h] at h1 h2 h3 ⊢
      refine ⟨h1.imp_right (List.mem_cons_of_mem _), ?_, ?_⟩
      · rintro p (rfl | hp)
        · exact h2 _ (.inl rfl)
        · rcases List.mem_cons.1 hp with rfl | hp
          · exact le_trans (h.elim le_of_lt fun e => e.1.ge) (h2 a (.inl rfl))
          · exact h2 p (.inr hp)
      · rintro p (rfl | hp) e
        · exact h3 _ (.inl rfl) e
        · rcases List.mem_cons.1 hp with rfl | hp
          · rcases h with h | h
            · exact absurd (h2 a (.inl rfl)) (not_le.2 (e ▸ h))
            · exact le_trans (h3 a (.inl rfl) (h.1.trans e)) h.2.le
          · exact h3 p (.inr hp) e
    · rw [hf.right a b h] at h1 h2 h3 ⊢
      obtain ⟨g1, g2⟩ := not_or.1 h
      refine ⟨.inr (h1.elim (fun e => List.mem_cons.2 (.inl e)) (List.mem_cons_of_mem _)), ?_, ?_⟩
      · rintro p (rfl | hp)
        · exact le_trans (not_lt.1 g1) (h2 b (.inl rfl))
        · rcases List.mem_cons.1 hp with rfl | hp
          · exact h2 _ (.inl rfl)
          · exact h2 p (.inr hp)
      · rintro p (rfl | hp) e
        · have e' : p.1 = b.1 := le_antisymm (not_lt.1 g1) (e ▸ h2 b (.inl rfl))
          exact le_trans (h3 b (.inl rfl) (e'.symm.trans e)) (not_lt.1 fun q => g2 ⟨e', q⟩)
        · rcases List.mem_cons.1 hp with rfl | hp
          · exact h3 _ (.inl rfl) e
          · exact h3 p (.inr hp) e

/-- The fold from the least pair over the pairs `(s k, k)`, in any order, ends at the first greatest index. -/
theorem foldl_top {f : EReal × BitVec 32 → EReal × BitVec 32 → EReal × BitVec 32} (hf : PicksBetter f) (s : Fin 1366 → EReal)
    (l : List (EReal × BitVec 32)) (h : ∀ p, p ∈ l ↔ ∃ k, p = (s k, BitVec.ofNat 32 k.val)) :
    (l.foldl f (⊥, 0#32)).2 = BitVec.ofNat 32 (Spec.top s).val := by
  obtain ⟨h1, h2, h3⟩ := foldl_best hf l (⊥, 0#32)
  have mem : ∀ k, (s k, BitVec.ofNat 32 k.val) ∈ l := fun k => (h _).2 ⟨k, rfl⟩
  have word : ∀ k : Fin 1366, (BitVec.ofNat 32 k.val).toInt = k.val := fun k => StableHlo.Predicate.toInt_ofNat_small _ (by omega)
  obtain ⟨t1, t2⟩ := Spec.isTop_top s
  rcases h1 with e | e
  · -- every value is least, so the first greatest index is the first of all
    have e0 : ∀ k, s k = ⊥ := fun k => le_bot_iff.1 (by have := h2 _ (.inr (mem k)); rwa [e] at this)
    have := t2 0 ((e0 0).trans (e0 _).symm)
    rw [e, show Spec.top s = 0 from le_antisymm this (Fin.zero_le _)]
    rfl
  · obtain ⟨k, hk⟩ := (h _).1 e
    rw [hk] at h2 h3 ⊢
    rw [Spec.IsTop.unique (Spec.isTop_top s) (q := k) ⟨fun j => h2 _ (.inr (mem j)), fun j hj => ?_⟩]
    have := h3 _ (.inr (mem j)) hj
    rw [word, word] at this
    exact_mod_cast this

/-- **An arg-max over the columns of a matrix**, from the least value and index zero, is the first greatest index of each row. -/
theorem argReduce_top {R : ℕ} {u : Shape} {f : EReal × BitVec 32 → EReal × BitVec 32 → EReal × BitVec 32} (hf : PicksBetter f)
    (s : FVec Ideal (shape2 R 1366) .f32) (ix : FVec Ideal u .f32) (iy : IVec u 32) (h : (shape2 R 1366).ReducesTo [1] (shape1 R)) (hu : 0 < u.numel)
    (hx : ix (Shape.Idx.first hu) = ⊥) (hy : iy (Shape.Idx.first hu) = 0#32) (r : Fin R) :
    (Host.argReduce f s (iotaInDim (shape2 R 1366) 32 1) ix iy h hu (ix1 r)).2 = BitVec.ofNat 32 (Spec.top (row s r)).val := by
  rw [Ideal.argReduce_eq_reduce2, Host.reduce2_eq_foldl_fiber, hx, hy]
  refine foldl_top hf _ _ fun p => ?_
  have drop : ∀ i : (shape2 R 1366).Idx, h.drop i = ix1 (i 0) := fun i => by
    funext b
    match b with
    | ⟨0, _⟩ => rfl
  unfold Host.argReduceFiber
  rw [List.mem_map]
  constructor
  · rintro ⟨n, hn, rfl⟩
    have hd := of_decide_eq_true (List.mem_filter.1 hn).2
    generalize (shape2 R 1366).rowMajor.symm n = i at hd ⊢
    rw [drop] at hd
    obtain rfl : i 0 = r := congrFun hd 0
    exact ⟨i 1, Prod.ext (congrArg s (eq_ix2 i)) rfl⟩
  · rintro ⟨k, rfl⟩
    refine ⟨(shape2 R 1366).rowMajor (ix2 r k), List.mem_filter.2 ⟨List.mem_finRange _, decide_eq_true ?_⟩, ?_⟩
    · rw [Equiv.symm_apply_apply, drop]
      rfl
    · rw [Equiv.symm_apply_apply]
      rfl

/-- A fold of signed minima lies at or below each entry and is the start or an entry. -/
theorem fold_min_spec {n : ℕ} (b : BitVec 32) (f : Fin n → BitVec 32) :
    (∀ k, (Finset.univ.fold IntOp.minsi b f).toInt ≤ (f k).toInt)
      ∧ (Finset.univ.fold IntOp.minsi b f = b ∨ ∃ k, Finset.univ.fold IntOp.minsi b f = f k) := by
  have hmin : ∀ a c : BitVec 32, (IntOp.minsi a c).toInt ≤ a.toInt ∧ (IntOp.minsi a c).toInt ≤ c.toInt ∧ (IntOp.minsi a c = a ∨ IntOp.minsi a c = c) := fun a c => by
    show (if a.slt c then a else c).toInt ≤ _ ∧ (if a.slt c then a else c).toInt ≤ _ ∧ ((if a.slt c then a else c) = a ∨ (if a.slt c then a else c) = c)
    by_cases h : a.toInt < c.toInt
    · rw [show a.slt c = true from decide_eq_true h, if_pos rfl]
      exact ⟨le_rfl, h.le, .inl rfl⟩
    · rw [show a.slt c = false from decide_eq_false h, if_neg Bool.false_ne_true]
      exact ⟨not_lt.1 h, le_rfl, .inr rfl⟩
  suffices H : ∀ S : Finset (Fin n), (∀ k ∈ S, (S.fold IntOp.minsi b f).toInt ≤ (f k).toInt)
      ∧ (S.fold IntOp.minsi b f = b ∨ ∃ k, S.fold IntOp.minsi b f = f k) from
    ⟨fun k => (H _).1 k (Finset.mem_univ k), (H _).2⟩
  intro S
  induction S using Finset.induction_on with
  | empty => exact ⟨fun k hk => absurd hk (Finset.notMem_empty k), .inl Finset.fold_empty⟩
  | insert a S ha ih =>
    rw [Finset.fold_insert ha]
    obtain ⟨m1, m2, m3⟩ := hmin (f a) (S.fold IntOp.minsi b f)
    refine ⟨fun k hk => ?_, ?_⟩
    · rcases Finset.mem_insert.1 hk with rfl | hk
      · exact m1
      · exact m2.trans (ih.1 k hk)
    · rcases m3 with e | e
      · exact .inr ⟨a, e⟩
      · rw [e]
        exact ih.2

/-- A fold of maxima from the least value is the greatest entry. -/
theorem fold_max_eq {n : ℕ} (s : Fin n → EReal) (q : Fin n) (h : ∀ j, s j ≤ s q) : Finset.univ.fold max ⊥ s = s q :=
  le_antisymm (Finset.fold_max_le (s q) |>.2 ⟨bot_le, fun j _ => h j⟩) (Finset.le_fold_max (s q) |>.2 (.inr ⟨q, Finset.mem_univ q, le_rfl⟩))

/-- The least index among those at which `s` is greatest, the others standing at a word past the range, is the first greatest index. -/
theorem fold_min_top {n : ℕ} (hn : n < 2 ^ 30) (s : Fin n → EReal) (q : Fin n) (h : Spec.IsTop s q) :
    (Finset.univ.fold IntOp.minsi 2147483647#32 fun k : Fin n => if s k = s q then BitVec.ofNat 32 k.val else 1073741824#32)
      = BitVec.ofNat 32 q.val := by
  have word : ∀ k : Fin n, (BitVec.ofNat 32 k.val).toInt = k.val := fun k => StableHlo.Predicate.toInt_ofNat_small _ (by omega)
  obtain ⟨h1, h2⟩ := fold_min_spec 2147483647#32 fun k : Fin n => if s k = s q then BitVec.ofNat 32 k.val else 1073741824#32
  have hq := h1 q
  rw [if_pos rfl, word] at hq
  have big : (1073741824#32).toInt = 2 ^ 30 := by decide
  have top : (2147483647#32).toInt = 2 ^ 31 - 1 := by decide
  have hql := q.isLt
  rcases h2 with e | ⟨k, e⟩
  · rw [e, top] at hq
    omega
  · by_cases hk : s k = s q
    · rw [if_pos hk] at e
      rw [e, word] at hq
      have := h.2 k hk
      rw [e, show k = q from le_antisymm (by exact_mod_cast hq) this]
    · rw [if_neg hk] at e
      rw [e, big] at hq
      omega

end Cert

end
-- ==== Proof.Scatters.lean ====
/- A block, part of a column or part of a row of a matrix replaced: the scatters that build the kernel's tables, read at an entry. -/
module

public import proofs.«01_k».proof.Proof.Movement

@[expose] public section

set_option maxRecDepth 16384

noncomputable section

namespace Cert

open Idealize.ShloMosaic Idealize.ShloMosaic.Routing

variable {α : Type} {R C : ℕ}

/-- Where entry `(a, b)` of a block lands: at its own place, counted from the two index words. -/
theorem lands_block {A B : ℕ} (d : ScatterDims (shape2 R C) (shape1 2) (shape2 A B)) (huw : d.updateWindowDims = [0, 1])
    (hiw : d.insertedWindowDims = []) (hsd : d.scatterDimsToOperandDims = [0, 1]) (hivd : d.indexVectorDim = 0) (idx : IVec (shape1 2) 32)
    (a : Fin A) (b : Fin B) (r : Fin R) (c : Fin C) :
    d.resultIdx? (ix2 a b) idx = some (ix2 r c)
      ↔ (idx (ix1 (0 : Fin 2))).toInt + (a.val : Int) = r.val ∧ (idx (ix1 (1 : Fin 2))).toInt + (b.val : Int) = c.val := by
  have hk : d.sKept = [0, 1] := by
    show (shape2 R C).kept d.insertedWindowDims = _
    rw [hiw]
    rfl
  have pick : ∀ (l : List (Fin 2)) (n : ℕ) (h : n < l.length) (q : Fin 2), l = [0, 1] → n = q.val → l[n]'h = q := by
    intro l n h q hl hn
    subst hl
    subst hn
    fin_cases q <;> rfl
  have hwin : ∀ q : Fin 2, d.window (ix2 a b) q = (ix2 a b q).val := fun q => by
    have hq : q ∈ d.sKept := by rw [hk]; fin_cases q <;> simp
    unfold ScatterDims.window
    rw [dif_pos hq]
    refine congrArg (fun t => (ix2 a b t).val) (pick _ _ _ q huw ?_)
    rw [hk]
    fin_cases q <;> rfl
  refine (resultIdx?_ix2 d _ idx r c).trans ?_
  rw [start_pair d hsd hivd, start_pair d hsd hivd, hwin, hwin]
  rfl

/-- Where entry `k` of part of a row lands. -/
theorem lands_line {U : ℕ} (d : ScatterDims (shape2 R C) (shape1 2) (shape1 U)) (hiw : d.insertedWindowDims = [0])
    (hsd : d.scatterDimsToOperandDims = [0, 1]) (hivd : d.indexVectorDim = 0) (idx : IVec (shape1 2) 32) (k : Fin U) (r : Fin R) (c : Fin C) :
    d.resultIdx? (ix1 k) idx = some (ix2 r c)
      ↔ (idx (ix1 (0 : Fin 2))).toInt = r.val ∧ (idx (ix1 (1 : Fin 2))).toInt + (k.val : Int) = c.val := by
  have hk : d.sKept = [1] := by
    show (shape2 R C).kept d.insertedWindowDims = _
    rw [hiw]
    rfl
  have hwin0 : d.window (ix1 k) 0 = 0 := by
    unfold ScatterDims.window
    rw [dif_neg (by rw [hk]; simp)]
  have hwin1 : d.window (ix1 k) 1 = k.val := by
    unfold ScatterDims.window
    rw [dif_pos (by rw [hk]; simp)]
    exact congrArg (fun t => ((ix1 k : (shape1 U).Idx) t).val) (Subsingleton.elim (α := Fin 1) _ 0)
  refine (resultIdx?_ix2 d _ idx r c).trans ?_
  rw [start_pair d hsd hivd, start_pair d hsd hivd, hwin0, hwin1, Nat.cast_zero, add_zero]
  rfl

/-- A block replaced from the origin, read inside it. -/
theorem block_hit {A B : ℕ} (d : ScatterDims (shape2 R C) (shape1 2) (shape2 A B)) (huw : d.updateWindowDims = [0, 1])
    (hiw : d.insertedWindowDims = []) (hsd : d.scatterDimsToOperandDims = [0, 1]) (hivd : d.indexVectorDim = 0) (x : (shape2 R C).Idx → α)
    (idx : IVec (shape1 2) 32) (h0 : (idx (ix1 (0 : Fin 2))).toInt = 0) (h1 : (idx (ix1 (1 : Fin 2))).toInt = 0)
    (u : (shape2 A B).Idx → α) (a : Fin A) (b : Fin B) (r : Fin R) (c : Fin C) (hr : a.val = r.val) (hc : b.val = c.val) :
    Host.scatter d (fun _ v => v) x idx u (ix2 r c) = u (ix2 a b) := by
  refine scatter_set_hit d x idx u _ _ (fun j hj => ?_) (ix2 a b) ((lands_block d huw hiw hsd hivd idx a b r c).2 ⟨by omega, by omega⟩)
  obtain ⟨a', b', rfl⟩ : ∃ a' b', j = ix2 a' b' := ⟨j 0, j 1, eq_ix2 j⟩
  have h := (lands_block d huw hiw hsd hivd idx a' b' r c).1 hj
  exact congrArg₂ (fun s t => u (ix2 s t)) (Fin.ext (by omega)) (Fin.ext (by omega))

/-- A block replaced from the origin, read below it or to its right. -/
theorem block_miss {A B : ℕ} (d : ScatterDims (shape2 R C) (shape1 2) (shape2 A B)) (huw : d.updateWindowDims = [0, 1])
    (hiw : d.insertedWindowDims = []) (hsd : d.scatterDimsToOperandDims = [0, 1]) (hivd : d.indexVectorDim = 0) (x : (shape2 R C).Idx → α)
    (idx : IVec (shape1 2) 32) (h0 : (idx (ix1 (0 : Fin 2))).toInt = 0) (h1 : (idx (ix1 (1 : Fin 2))).toInt = 0)
    (u : (shape2 A B).Idx → α) (r : Fin R) (c : Fin C) (hrc : A ≤ r.val ∨ B ≤ c.val) :
    Host.scatter d (fun _ v => v) x idx u (ix2 r c) = x (ix2 r c) := by
  refine scatter_set_miss d x idx u _ fun j hj => ?_
  obtain ⟨a', b', rfl⟩ : ∃ (a' : Fin A) (b' : Fin B), j = ix2 a' b' := ⟨j 0, j 1, eq_ix2 j⟩
  have h := (lands_block d huw hiw hsd hivd idx a' b' r c).1 hj
  have := a'.isLt
  have := b'.isLt
  omega

/-- Part of a column replaced, read inside it. -/
theorem column_hit {U : ℕ} (d : ScatterDims (shape2 R C) (shape1 2) (shape1 U)) (hiw : d.insertedWindowDims = [1])
    (hsd : d.scatterDimsToOperandDims = [0, 1]) (hivd : d.indexVectorDim = 0) (x : (shape2 R C).Idx → α) (idx : IVec (shape1 2) 32)
    (u : (shape1 U).Idx → α) (k : Fin U) (r : Fin R) (c : Fin C) (h0 : (idx (ix1 (0 : Fin 2))).toInt + (k.val : Int) = r.val)
    (h1 : (idx (ix1 (1 : Fin 2))).toInt = c.val) : Host.scatter d (fun _ v => v) x idx u (ix2 r c) = u (ix1 k) := by
  refine scatter_set_hit d x idx u _ _ (fun j hj => ?_) (ix1 k) ((lands_column d hiw hsd hivd idx k r c).2 ⟨h0, h1⟩)
  obtain ⟨k', rfl⟩ : ∃ k', j = ix1 k' := ⟨j 0, eq_ix1 j⟩
  have h : (idx (ix1 (0 : Fin 2))).toInt + (k'.val : Int) = r.val ∧ _ := (lands_column d hiw hsd hivd idx k' r c).1 hj
  exact congrArg (fun s => u (ix1 s)) (Fin.ext (by omega))

/-- Part of a column replaced, read in another column or in another row. -/
theorem column_miss {U : ℕ} (d : ScatterDims (shape2 R C) (shape1 2) (shape1 U)) (hiw : d.insertedWindowDims = [1])
    (hsd : d.scatterDimsToOperandDims = [0, 1]) (hivd : d.indexVectorDim = 0) (x : (shape2 R C).Idx → α) (idx : IVec (shape1 2) 32)
    (u : (shape1 U).Idx → α) (r : Fin R) (c : Fin C)
    (h : (idx (ix1 (1 : Fin 2))).toInt ≠ c.val ∨ (r.val : Int) < (idx (ix1 (0 : Fin 2))).toInt ∨ (idx (ix1 (0 : Fin 2))).toInt + U ≤ r.val) :
    Host.scatter d (fun _ v => v) x idx u (ix2 r c) = x (ix2 r c) := by
  refine scatter_set_miss d x idx u _ fun j hj => ?_
  obtain ⟨k', rfl⟩ : ∃ k' : Fin U, j = ix1 k' := ⟨j 0, eq_ix1 j⟩
  have h' : (idx (ix1 (0 : Fin 2))).toInt + (k'.val : Int) = r.val ∧ (idx (ix1 (1 : Fin 2))).toInt = c.val :=
    (lands_column d hiw hsd hivd idx k' r c).1 hj
  have := k'.isLt
  omega

/-- Part of a row replaced, read inside it. -/
theorem line_hit {U : ℕ} (d : ScatterDims (shape2 R C) (shape1 2) (shape1 U)) (hiw : d.insertedWindowDims = [0])
    (hsd : d.scatterDimsToOperandDims = [0, 1]) (hivd : d.indexVectorDim = 0) (x : (shape2 R C).Idx → α) (idx : IVec (shape1 2) 32)
    (u : (shape1 U).Idx → α) (k : Fin U) (r : Fin R) (c : Fin C) (h0 : (idx (ix1 (0 : Fin 2))).toInt = r.val)
    (h1 : (idx (ix1 (1 : Fin 2))).toInt + (k.val : Int) = c.val) : Host.scatter d (fun _ v => v) x idx u (ix2 r c) = u (ix1 k) := by
  refine scatter_set_hit d x idx u _ _ (fun j hj => ?_) (ix1 k) ((lands_line d hiw hsd hivd idx k r c).2 ⟨h0, h1⟩)
  obtain ⟨k', rfl⟩ : ∃ k', j = ix1 k' := ⟨j 0, eq_ix1 j⟩
  have h := (lands_line d hiw hsd hivd idx k' r c).1 hj
  exact congrArg (fun s => u (ix1 s)) (Fin.ext (by omega))

/-- Part of a row replaced, read in another row. -/
theorem line_miss {U : ℕ} (d : ScatterDims (shape2 R C) (shape1 2) (shape1 U)) (hiw : d.insertedWindowDims = [0])
    (hsd : d.scatterDimsToOperandDims = [0, 1]) (hivd : d.indexVectorDim = 0) (x : (shape2 R C).Idx → α) (idx : IVec (shape1 2) 32)
    (u : (shape1 U).Idx → α) (r : Fin R) (c : Fin C) (h : (idx (ix1 (0 : Fin 2))).toInt ≠ r.val) :
    Host.scatter d (fun _ v => v) x idx u (ix2 r c) = x (ix2 r c) := by
  refine scatter_set_miss d x idx u _ fun j hj => ?_
  obtain ⟨k', rfl⟩ : ∃ k' : Fin U, j = ix1 k' := ⟨j 0, eq_ix1 j⟩
  exact h ((lands_line d hiw hsd hivd idx k' r c).1 hj).1

end Cert

end
-- ==== Proof.KernelReads.lean ====
/- The kernel body's layout operations, reductions and products, read at an index. -/
module

public import proofs.«01_k».proof.Proof.Movement
public import proofs.«01_k».proof.Proof.Gen.KernelIdeal.Skeleton

@[expose] public section

set_option maxRecDepth 16384

noncomputable section

namespace Cert.Body

open Idealize.ShloMosaic Idealize.SL.Sem Cert.KernelIdeal Cert.KernelIdeal.Facts₀

variable {α : Type}

/-- A vector laid out as one row. -/
theorem line_at (v : S512.Idx → α) (z : Fin 1) (l : Fin 512) : shapeCast S1x512 v shapeCasts_S512_S1x512 (ix2 z l) = v (ix1 l) := by
  pointwise

/-- One row repeated over eight rows. -/
theorem eight_at (v : S1x512.Idx → α) (k : Fin 8) (l : Fin 512) : broadcastTo S8x512 v broadcasts_S1x512_S8x512 (ix2 k l) = v (ix2 0 l) := by
  pointwise

/-- One row repeated over all rows of the codebook. -/
theorem many_at (v : S1x512.Idx → α) (j : Fin 1408) (l : Fin 512) :
    broadcastTo S1408x512 v broadcasts_S1x512_S1408x512 (ix2 j l) = v (ix2 0 l) := by
  pointwise

/-- One column of eight repeated over the block. -/
theorem column_at (v : S8x1.Idx → α) (k : Fin 8) (l : Fin 512) : broadcastTo S8x512 v broadcasts_S8x1_S8x512 (ix2 k l) = v (ix2 k 0) := by
  pointwise

/-- One column of the codebook repeated over the block. -/
theorem long_at (v : S1408x1.Idx → α) (j : Fin 1408) (l : Fin 512) :
    broadcastTo S1408x512 v broadcasts_S1408x1_S1408x512 (ix2 j l) = v (ix2 j 0) := by
  pointwise

/-- The first eight columns of the codebook. -/
theorem left_at (v : S1408x16.Idx → α) (j : Fin 1408) (k : Fin 8) :
    extractStridedSlice S1408x8 ![0, 0] v slices_S1408x16_o0_0_S1408x8 (ix2 j k) = v (ix2 j (k.castLE (by decide))) := by
  pointwise
  rfl

/-- The ninth column of the codebook. -/
theorem ninth_at (v : S1408x16.Idx → α) (j : Fin 1408) (z : Fin 1) :
    extractStridedSlice S1408x1 ![0, 8] v slices_S1408x16_o0_8_S1408x1 (ix2 j z) = v (ix2 j 8) := by
  pointwise

/-- The first eight rows of what was looked up. -/
theorem top_at (v : S16x512.Idx → α) (k : Fin 8) (l : Fin 512) :
    extractStridedSlice S8x512 ![0, 0] v slices_S16x512_o0_0_S8x512 (ix2 k l) = v (ix2 (k.castLE (by decide)) l) := by
  pointwise
  rfl

/-- The ninth row of what was looked up: the codes. -/
theorem eighth_at (v : S16x512.Idx → α) (z : Fin 1) (l : Fin 512) :
    extractStridedSlice S1x512 ![8, 0] v slices_S16x512_o8_0_S1x512 (ix2 z l) = v (ix2 8 l) := by
  pointwise

/-- The tenth row of what was looked up: the bytes of the codebook's signs. -/
theorem tenth_at (v : S16x512.Idx → α) (z : Fin 1) (l : Fin 512) :
    extractStridedSlice S1x512 ![9, 0] v slices_S16x512_o9_0_S1x512 (ix2 z l) = v (ix2 9 l) := by
  pointwise

/-- The sums of the columns of words. -/
theorem sumI_at (n : IVec S8x512 32) (l : Fin 512) :
    multiReductionI .add [0] S512 n 0#32 reduces_S8x512_S512 rfl (ix1 l) = Finset.univ.fold IntOp.addi 0#32 fun k : Fin 8 => n (ix2 k l) := by
  pointwise

/-- The least words of the columns. -/
theorem minI_at (n : IVec S1408x512 32) (l : Fin 512) :
    multiReductionI .minsi [0] S512 n 2147483647#32 reduces_S1408x512_S512 rfl (ix1 l)
      = Finset.univ.fold IntOp.minsi 2147483647#32 fun k : Fin 1408 => n (ix2 k l) := by
  pointwise

/-- The sums of the columns. -/
theorem sum_at (n : FVec Ideal S8x512 .f32) (l : Fin 512) :
    multiReduction .add [0] S512 n 0x00000000#32 reduces_S8x512_S512 (.inl rfl) rfl (ix1 l) = ∑ k : Fin 8, n (ix2 k l) := by
  pointwise

/-- The greatest entries of the columns. -/
theorem max_at (n : FVec Ideal S1408x512 .f32) (l : Fin 512) :
    multiReduction .maximumf [0] S512 n 0xFF800000#32 reduces_S1408x512_S512 (.inl rfl) rfl (ix1 l)
      = Finset.univ.fold max ⊥ fun k : Fin 1408 => n (ix2 k l) := by
  pointwise
  rw [show Ideal.ofBits .f32 4286578688#32 = ⊥ by simp [Ideal.ofBits, Ideal.ieee]]

/-- The codebook against a block's columns. -/
theorem dot_at (a : FVec Ideal S1408x8 .bf16) (b : FVec Ideal S8x512 .bf16) (j : Fin 1408) (l : Fin 512) :
    matmul dot_S1408x8_S8x512_S1408x512_1_0_0_1_n_n none a b (constant (F := Ideal) S1408x512 .f32 0x00000000#32) (ix2 j l)
      = ∑ k : Fin 8, a (ix2 j k) * b (ix2 k l) := by
  pointwise

/-- The augmented codebook against a block's columns. -/
theorem lookup_at (a : FVec Ideal S16x1408 .f32) (b : FVec Ideal S1408x512 .f32) (i : Fin 16) (l : Fin 512) :
    matmul dot_S16x1408_S1408x512_S16x512_1_0_0_1_n_n (some .fp32) a b (constant (F := Ideal) S16x512 .f32 0x00000000#32) (ix2 i l)
      = ∑ j : Fin 1408, a (ix2 i j) * b (ix2 j l) := by
  pointwise

end Cert.Body

end
-- ==== Proof.KernelSteps.lean ====
/- The kernel body's steps on one shifted block, each read at a column. -/
module

public import proofs.«01_k».proof.Proof.KernelReads

@[expose] public section

set_option maxRecDepth 16384

noncomputable section

namespace Cert.Body

open Idealize.ShloMosaic Idealize.SL.Sem Cert.KernelIdeal Cert.KernelIdeal.Facts₀

/-! ## The steps, over the values they read -/

/-- A scalar over a block. -/
abbrev fill (s : Shape) (b : BitVec 32) : FVec Ideal s .f32 := broadcast s (Scalar.ofBits .f32 b)

/-- The sign bits of a block, as words. -/
def signs (z : FVec Ideal S8x512 .f32) : IVec S8x512 32 := extui 32 (cmpf .olt z (fill S8x512 0x00000000#32)) natLt_1_32

/-- The parities of the columns of sign bits. -/
def odds (n : IVec S8x512 32) : IVec S1x512 32 :=
  andi (shapeCast S1x512 (multiReductionI .add [0] S512 n 0#32 reduces_S8x512_S512 rfl) shapeCasts_S512_S1x512) (broadcast S1x512 1#32)

/-- One less twice a word. -/
def units {s : Shape} (o : IVec s 32) : FVec Ideal s .f32 := subf (fill s 0x3F800000#32) (mulf (fill s 0x40000000#32) (sitofp .f32 o))

/-- Where the last of the eight rows lies. -/
def last : IVec S8x512 1 :=
  broadcastTo S8x512 (shapeCast S8x1 (cmpi .eq (iota .tc S8x1 32 [0] iota_S8x1_d0_w32) (broadcast S8x1 7#32)) shapeCasts_S8x1_S8x1) broadcasts_S8x1_S8x512

/-- A block with its last row multiplied by a row of signs. -/
def flip (a : FVec Ideal S8x512 .f32) (t : FVec Ideal S1x512 .f32) : FVec Ideal S8x512 .f32 :=
  select last (mulf a (broadcastTo S8x512 t broadcasts_S1x512_S8x512)) a

/-- The scores of all rows of the codebook against a block of unsigned columns. -/
def scores (g : FVec Ideal S1408x16 .f32) (p : FVec Ideal S8x512 .f32) : FVec Ideal S1408x512 .f32 :=
  subf (mulf (fill S1408x512 0x40000000#32)
      (matmul dot_S1408x8_S8x512_S1408x512_1_0_0_1_n_n none
        (truncf .bf16 (extractStridedSlice S1408x8 ![0, 0] g slices_S1408x16_o0_0_S1408x8) bitsLt_bf16_f32) (truncf .bf16 p bitsLt_bf16_f32)
        (constant S1408x512 .f32 0x00000000#32)))
    (broadcastTo S1408x512 (extractStridedSlice S1408x1 ![0, 8] g slices_S1408x16_o0_8_S1408x1) broadcasts_S1408x1_S1408x512)

/-- The greatest score of each column, over the whole block. -/
def tops (s : FVec Ideal S1408x512 .f32) : FVec Ideal S1408x512 .f32 :=
  broadcastTo S1408x512 (shapeCast S1x512 (multiReduction .maximumf [0] S512 s 0xFF800000#32 reduces_S1408x512_S512 (.inl rfl) rfl)
    shapeCasts_S512_S1x512) broadcasts_S1x512_S1408x512

/-- The row numbers of the codebook, over the block. -/
abbrev numbers : IVec S1408x512 32 := iota .tc S1408x512 32 [0] iota_S1408x512_d0_w32

/-- The first row number of each column at which the score is the greatest. -/
def firsts (s t : FVec Ideal S1408x512 .f32) (n : IVec S1408x512 32) : IVec S512 32 :=
  multiReductionI .minsi [0] S512 (select (cmpf .oeq s t) n (broadcast S1408x512 1073741824#32)) 2147483647#32 reduces_S1408x512_S512 rfl

/-- The chosen columns of the augmented codebook. -/
def lookup (a : FVec Ideal S16x1408 .f32) (n : IVec S1408x512 32) (q : IVec S512 32) : FVec Ideal S16x512 .f32 :=
  matmul dot_S16x1408_S1408x512_S16x512_1_0_0_1_n_n (some .fp32) a
    (sitofp .f32 (extui 32 (cmpi .eq n (broadcastTo S1408x512 (shapeCast S1x512 q shapeCasts_S512_S1x512) broadcasts_S1x512_S1408x512)) natLt_1_32))
    (constant S16x512 .f32 0x00000000#32)

/-- The chosen rows of the codebook, with signs. -/
def values (e : FVec Ideal S16x512 .f32) (u : FVec Ideal S8x512 .f32) : FVec Ideal S8x512 .f32 :=
  mulf (extractStridedSlice S8x512 ![0, 0] e slices_S16x512_o0_0_S8x512) u

/-- The squared distances of the columns from their quantised columns. -/
def errors (z v : FVec Ideal S8x512 .f32) : FVec Ideal S1x512 .f32 :=
  shapeCast S1x512 (multiReduction .add [0] S512 (mulf (subf z v) (subf z v)) 0x00000000#32 reduces_S8x512_S512 (.inl rfl) rfl) shapeCasts_S512_S1x512

/-- The code words, from the chosen columns and the bytes of the signs. -/
def codes (e : FVec Ideal S16x512 .f32) (b : IVec S1x512 32) : IVec S1x512 32 :=
  ori (shli (fptosi 32 (extractStridedSlice S1x512 ![8, 0] e slices_S16x512_o8_0_S1x512)) (broadcast S1x512 8#32))
    (xori (fptosi 32 (extractStridedSlice S1x512 ![9, 0] e slices_S16x512_o9_0_S1x512)) b)

/-! ## The steps at a column -/

/-- A filled block, at an index. -/
theorem fill_at (s : Shape) (b : BitVec 32) (i : s.Idx) : fill s b i = Ideal.ofBits .f32 b := rfl

/-- Sign bits at an entry. -/
theorem signs_at (z : FVec Ideal S8x512 .f32) (k : Fin 8) (l : Fin 512) : signs z (ix2 k l) = Spec.wide (Spec.neg (col z l) k) := by
  have h : Ideal.ofBits .f32 0x00000000#32 = 0 := by simp [Ideal.ofBits, Ideal.ieee]
  have e : signs z (ix2 k l) = Spec.wide (BitVec.ofBool (decide (z (ix2 k l) < Ideal.ofBits .f32 0x00000000#32))) := rfl
  rw [e, h]
  rfl

/-- The parity of a column. -/
theorem odds_at (n : IVec S8x512 32) (l : Fin 512) (b : Fin 8 → BitVec 1) (h : ∀ k, n (ix2 k l) = Spec.wide (b k)) (z : Fin 1) :
    odds n (ix2 z l) = Spec.wide (Spec.odd b) := by
  have e : odds n (ix2 z l) = IntOp.andi (shapeCast S1x512 (multiReductionI .add [0] S512 n 0#32 reduces_S8x512_S512 rfl) shapeCasts_S512_S1x512
      (ix2 z l)) 1#32 := rfl
  rw [e, line_at, sumI_at, Spec.fold_eight, BitVec.add_zero, ← Spec.ones_and_one]
  simp only [h]
  rfl

/-- A bit as a word, converted to a number. -/
theorem number_of_bit (b : BitVec 1) : FloatOps.sitofp (F := Ideal) .f32 (Spec.wide b) = ((b.toNat : ℝ) : EReal) := by
  have h : ∀ b : BitVec 1, (Spec.wide b).toInt = (b.toNat : ℤ) := by decide
  show (((Spec.wide b).toInt : ℝ) : EReal) = _
  rw [h]
  norm_cast

/-- One less twice a bit. -/
theorem units_at {s : Shape} (o : IVec s 32) (i : s.Idx) (b : BitVec 1) (h : o i = Spec.wide b) : units o i = Spec.unit b := by
  have e : units o i = Ideal.ofBits .f32 0x3F800000#32 - Ideal.ofBits .f32 0x40000000#32 * FloatOps.sitofp (F := Ideal) .f32 (o i) := rfl
  have h1 : Ideal.ofBits .f32 0x3F800000#32 = 1 := by
    simp [Ideal.ofBits, Ideal.ieee, -EReal.coe_mul]
    norm_num
  rw [e, h, number_of_bit, h1, Spec.ofBits_two]
  exact Spec.one_sub_two_mul b

/-- The last row. -/
theorem last_at (k : Fin 8) (l : Fin 512) : last (ix2 k l) = BitVec.ofBool (decide (k = 7)) := by
  unfold last
  rw [column_at, shapeCast_self]
  have h : ∀ k : Fin 8, IntOp.cmpi .eq (BitVec.ofNat 32 k.val) 7#32 = BitVec.ofBool (decide (k = 7)) := by decide
  rw [← h]
  pointwise

/-- A block with its last row turned by a sign. -/
theorem flip_at (a : FVec Ideal S8x512 .f32) (t : FVec Ideal S1x512 .f32) (k : Fin 8) (l : Fin 512) :
    flip a t (ix2 k l) = if k = 7 then a (ix2 k l) * t (ix2 0 l) else a (ix2 k l) := by
  unfold flip
  rw [choose_at, last_at, WordCmp.select_decide, mul_at, eight_at]

/-- A number times the sign of a bit, where the bit is set only if the sign is turned. -/
theorem mul_unit (a : EReal) (n : Fin 8 → BitVec 1) (k : Fin 8) :
    (if k = 7 then a * Spec.unit (Spec.odd n) else a) = if Spec.turned n k then -a else a := by
  by_cases hk : k = 7
  · by_cases ho : Spec.odd n = 1#1
    · rw [if_pos hk, if_pos (show Spec.turned n k from ⟨hk, ho⟩), Spec.unit, if_pos ho, mul_comm, EReal.neg_mul, one_mul]
    · rw [if_pos hk, if_neg fun h : Spec.turned n k => ho h.2, Spec.unit, if_neg ho, mul_one]
  · rw [if_neg hk, if_neg fun h : Spec.turned n k => hk h.1]

/-- The scores of a column. -/
theorem scores_at (g : FVec Ideal S1408x16 .f32) (p : FVec Ideal S8x512 .f32) (j : Fin 1408) (l : Fin 512) :
    scores g p (ix2 j l) = 2 * (∑ k : Fin 8, g (ix2 j (k.castLE (by decide))) * p (ix2 k l)) - g (ix2 j 8) := by
  unfold scores
  rw [sub_at, mul_at, fill_at, Spec.ofBits_two, dot_at, long_at, ninth_at]
  refine congrArg (fun t => 2 * t - _) (Finset.sum_congr rfl fun k _ => ?_)
  rw [← left_at g j k]
  rfl

/-- The first greatest score of a column. -/
theorem firsts_at (s : FVec Ideal S1408x512 .f32) (l : Fin 512) (q : Fin 1408) (h : Spec.IsTop (col s l) q) :
    firsts s (tops s) numbers (ix1 l) = BitVec.ofNat 32 q.val := by
  have ht : ∀ j, tops s (ix2 j l) = s (ix2 q l) := fun j => by
    unfold tops
    rw [many_at, line_at, max_at]
    exact fold_max_eq (col s l) q h.1
  have hn : ∀ j : Fin 1408, numbers (ix2 j l) = BitVec.ofNat 32 j.val := fun j => by pointwise
  rw [← fold_min_top (by norm_num) (col s l) q h]
  unfold firsts
  rw [minI_at]
  refine congrArg (Finset.univ.fold IntOp.minsi 2147483647#32) (funext fun j => ?_)
  have e : cmpf .oeq s (tops s) (ix2 j l) = BitVec.ofBool (decide (s (ix2 j l) = tops s (ix2 j l))) := rfl
  rw [choose_at, e, WordCmp.select_decide, ht, hn]
  rfl

/-- A column of the augmented codebook looked up. -/
theorem lookup_col (a : FVec Ideal S16x1408 .f32) (q : IVec S512 32) (l : Fin 512) (n : Fin 1408) (h : q (ix1 l) = BitVec.ofNat 32 n.val)
    (i : Fin 16) : lookup a numbers q (ix2 i l) = a (ix2 i n) := by
  unfold lookup
  rw [lookup_at]
  have hw : ∀ j : Fin 1408, (sitofp (F := Ideal) .f32 (extui 32 (cmpi .eq numbers (broadcastTo S1408x512 (shapeCast S1x512 q shapeCasts_S512_S1x512)
      broadcasts_S1x512_S1408x512)) natLt_1_32)) (ix2 j l) = if j = n then 1 else 0 := fun j => by
    have e : (sitofp (F := Ideal) .f32 (extui 32 (cmpi .eq numbers (broadcastTo S1408x512 (shapeCast S1x512 q shapeCasts_S512_S1x512)
        broadcasts_S1x512_S1408x512)) natLt_1_32)) (ix2 j l) = FloatOps.sitofp (F := Ideal) .f32 (Spec.wide (IntOp.cmpi .eq (numbers (ix2 j l))
          (broadcastTo S1408x512 (shapeCast S1x512 q shapeCasts_S512_S1x512) broadcasts_S1x512_S1408x512 (ix2 j l)))) := rfl
    have hn : numbers (ix2 j l) = BitVec.ofNat 32 j.val := by pointwise
    have hj : (BitVec.ofNat 32 j.val = BitVec.ofNat 32 n.val) ↔ j = n := by
      rw [← BitVec.toNat_inj, BitVec.toNat_ofNat, BitVec.toNat_ofNat, Nat.mod_eq_of_lt (by omega), Nat.mod_eq_of_lt (by omega), Fin.val_inj]
    have hc : IntOp.cmpi .eq (BitVec.ofNat 32 j.val) (BitVec.ofNat 32 n.val) = BitVec.ofBool (decide (BitVec.ofNat 32 j.val = BitVec.ofNat 32 n.val)) := by
      rw [show decide (BitVec.ofNat 32 j.val = BitVec.ofNat 32 n.val) = (BitVec.ofNat 32 j.val == BitVec.ofNat 32 n.val) from rfl]
      rfl
    rw [e, many_at, line_at, h, hn, number_of_bit, hc]
    by_cases hjn : j = n
    · rw [decide_eq_true (hj.2 hjn), if_pos hjn]; simp
    · rw [decide_eq_false (mt hj.1 hjn), if_neg hjn]; simp
  simp only [hw, mul_ite, mul_one, mul_zero, Finset.sum_ite_eq', Finset.mem_univ, if_true]

/-- Quantised columns. -/
theorem values_at (e : FVec Ideal S16x512 .f32) (u : FVec Ideal S8x512 .f32) (k : Fin 8) (l : Fin 512) :
    values e u (ix2 k l) = e (ix2 (k.castLE (by decide)) l) * u (ix2 k l) := by
  unfold values
  rw [mul_at, top_at]

/-- Squared distances. -/
theorem errors_at (z v : FVec Ideal S8x512 .f32) (i : Fin 1) (l : Fin 512) :
    errors z v (ix2 i l) = ∑ k : Fin 8, (z (ix2 k l) - v (ix2 k l)) * (z (ix2 k l) - v (ix2 k l)) := by
  unfold errors
  rw [line_at, sum_at]
  rfl

/-- A word converted to a number and back is that word. -/
theorem word_back (w : BitVec 32) : FloatOps.fptosi (F := Ideal) (φ := .f32) 32 ((w.toInt : ℝ) : EReal) = w := by
  show BitVec.ofInt 32 (Ideal.toIntClamped (-(2 ^ (32 - 1))) (2 ^ (32 - 1) - 1) ((w.toInt : ℝ) : EReal)) = w
  have h1 := BitVec.le_toInt w
  have h2 := BitVec.toInt_lt (x := w)
  have clamped : ∀ (lo hi : ℤ) (r : ℝ), Ideal.toIntClamped lo hi (r : EReal) = max lo (min hi (if 0 ≤ r then ⌊r⌋ else ⌈r⌉)) := fun _ _ _ => rfl
  rw [clamped, Int.floor_intCast, Int.ceil_intCast, ite_self, show max (-(2 ^ (32 - 1))) (min (2 ^ (32 - 1) - 1) w.toInt) = w.toInt by omega,
    BitVec.ofInt_toInt]

/-- Code words. -/
theorem codes_at (e : FVec Ideal S16x512 .f32) (b : IVec S1x512 32) (z : Fin 1) (l : Fin 512) (c w : BitVec 32)
    (hc : e (ix2 8 l) = ((c.toInt : ℝ) : EReal)) (hw : e (ix2 9 l) = ((w.toInt : ℝ) : EReal)) :
    codes e b (ix2 z l) = c <<< 8 ||| (w ^^^ b (ix2 z l)) := by
  have h : codes e b (ix2 z l) = IntOp.ori (IntOp.shli .vector (FloatOps.fptosi (F := Ideal) (φ := .f32) 32 (extractStridedSlice S1x512 ![8, 0] e slices_S16x512_o8_0_S1x512 (ix2 z l))) 8#32)
      (IntOp.xori (FloatOps.fptosi (F := Ideal) (φ := .f32) 32 (extractStridedSlice S1x512 ![9, 0] e slices_S16x512_o9_0_S1x512 (ix2 z l))) (b (ix2 z l))) := rfl
  rw [h, eighth_at, tenth_at, hc, hw, word_back, word_back]
  rfl

end Cert.Body

end
-- ==== Proof.KernelAt.lean ====
/- The kernel body's two stored blocks, read at a column: they are what the specification says of that column. -/
module

public import proofs.«01_k».proof.Proof.KernelSteps
public import proofs.«01_k».proof.Proof.Gen.KernelIdeal.Frame

@[expose] public section

set_option maxRecDepth 16384

noncomputable section

namespace Cert.Body

open Idealize.ShloMosaic Idealize.SL.Sem Cert.KernelIdeal Cert.KernelIdeal.Facts₀

/-! ## One shifted block -/

/-- The unsigned block. -/
def unsigned (z : FVec Ideal S8x512 .f32) : FVec Ideal S8x512 .f32 := flip (absf z) (units (odds (signs z)))

/-- The signs of the block. -/
def mask (z : FVec Ideal S8x512 .f32) : FVec Ideal S8x512 .f32 := flip (units (signs z)) (units (odds (signs z)))

/-- The bytes of the signs of the block, with a constant word compared. -/
def bytes (p : BitVec 32) (n : IVec S8x512 32) (o : IVec S1x512 32) : IVec S1x512 32 :=
  xori (addi (addi (addi (addi (addi (addi (addi
    (muli (extractStridedSlice S1x512 ![0, 0] n slices_S8x512_o0_0_S1x512) (broadcast S1x512 1#32))
    (muli (extractStridedSlice S1x512 ![2, 0] n slices_S8x512_o2_0_S1x512) (broadcast S1x512 2#32)))
    (muli (extractStridedSlice S1x512 ![4, 0] n slices_S8x512_o4_0_S1x512) (broadcast S1x512 4#32)))
    (muli (extractStridedSlice S1x512 ![6, 0] n slices_S8x512_o6_0_S1x512) (broadcast S1x512 8#32)))
    (muli (extractStridedSlice S1x512 ![1, 0] n slices_S8x512_o1_0_S1x512) (broadcast S1x512 16#32)))
    (muli (extractStridedSlice S1x512 ![3, 0] n slices_S8x512_o3_0_S1x512) (broadcast S1x512 32#32)))
    (muli (extractStridedSlice S1x512 ![5, 0] n slices_S8x512_o5_0_S1x512) (broadcast S1x512 64#32)))
    (muli (xori (extractStridedSlice S1x512 ![7, 0] n slices_S8x512_o7_0_S1x512) o) (broadcast S1x512 128#32))) (broadcast S1x512 p)

/-- The rows of the codebook chosen for the block. -/
def choice (g : FVec Ideal S1408x16 .f32) (z : FVec Ideal S8x512 .f32) : IVec S512 32 :=
  firsts (scores g (unsigned z)) (tops (scores g (unsigned z))) numbers

/-- What is looked up for the block. -/
def found (g : FVec Ideal S1408x16 .f32) (a : FVec Ideal S16x1408 .f32) (z : FVec Ideal S8x512 .f32) : FVec Ideal S16x512 .f32 :=
  lookup a numbers (choice g z)

/-- The block quantised. -/
def quant (g : FVec Ideal S1408x16 .f32) (a : FVec Ideal S16x1408 .f32) (z : FVec Ideal S8x512 .f32) : FVec Ideal S8x512 .f32 :=
  values (found g a z) (mask z)

/-- The squared distances of the block's columns. -/
def dists (g : FVec Ideal S1408x16 .f32) (a : FVec Ideal S16x1408 .f32) (z : FVec Ideal S8x512 .f32) : FVec Ideal S1x512 .f32 :=
  errors z (quant g a z)

/-- The code words of the block's columns. -/
def labels (p : BitVec 32) (g : FVec Ideal S1408x16 .f32) (a : FVec Ideal S16x1408 .f32) (z : FVec Ideal S8x512 .f32) : IVec S1x512 32 :=
  codes (found g a z) (bytes p (signs z) (odds (signs z)))

/-- The block moved by a constant. -/
def moved (b : BitVec 32) (x : FVec Ideal S8x512 .f32) : FVec Ideal S8x512 .f32 := addf x (fill S8x512 b)

/-- Which shift serves a column better. -/
def closer (g : FVec Ideal S1408x16 .f32) (a : FVec Ideal S16x1408 .f32) (x : FVec Ideal S8x512 .f32) : IVec S1x512 1 :=
  cmpf .olt (dists g a (moved 0x3E800000#32 x)) (dists g a (moved 0xBE800000#32 x))

/-- The first result's block, from the three blocks read. -/
theorem store_values (x0 : Vec Ideal S8x512 .f32) (x1 : Vec Ideal S1408x16 .f32) (x2 : Vec Ideal S16x1408 .f32) :
    Gen.out0_3 x0 x1 x2 = View.canon [⟨Gen.r0_0,
      select (broadcastTo S8x512 (shapeCast S1x512 (closer (Gen.k0_pay37 x0 x1 x2) (Gen.k0_pay38 x0 x1 x2) (Gen.k0_pay36 x0 x1 x2))
          shapeCasts_S1x512_S1x512) broadcasts_S1x512_S8x512)
        (subf (quant (Gen.k0_pay37 x0 x1 x2) (Gen.k0_pay38 x0 x1 x2) (moved 0x3E800000#32 (Gen.k0_pay36 x0 x1 x2))) (fill S8x512 0x3E800000#32))
        (addf (quant (Gen.k0_pay37 x0 x1 x2) (Gen.k0_pay38 x0 x1 x2) (moved 0xBE800000#32 (Gen.k0_pay36 x0 x1 x2))) (fill S8x512 0x3E800000#32))⟩] := rfl

/-- The second result's block, from the three blocks read. -/
theorem store_words (x0 : Vec Ideal S8x512 .f32) (x1 : Vec Ideal S1408x16 .f32) (x2 : Vec Ideal S16x1408 .f32) :
    Gen.out0_4 x0 x1 x2 = View.canon [⟨Gen.r0_3,
      shapeCast S1x1x512 (select (closer (Gen.k0_pay37 x0 x1 x2) (Gen.k0_pay38 x0 x1 x2) (Gen.k0_pay36 x0 x1 x2))
        (labels 1#32 (Gen.k0_pay37 x0 x1 x2) (Gen.k0_pay38 x0 x1 x2) (moved 0x3E800000#32 (Gen.k0_pay36 x0 x1 x2)))
        (labels 0#32 (Gen.k0_pay37 x0 x1 x2) (Gen.k0_pay38 x0 x1 x2) (moved 0xBE800000#32 (Gen.k0_pay36 x0 x1 x2)))) shapeCasts_S1x512_S1x1x512⟩] := rfl

/-- One row of a block of words. -/
theorem slice_at (n : IVec S8x512 32) (o : ℕ) (ho : o < 8) (h : S8x512.Slices ![o, 0] S1x512) (z : Fin 1) (l : Fin 512) :
    extractStridedSlice S1x512 ![o, 0] n h (ix2 z l) = n (ix2 ⟨o, ho⟩ l) := by
  pointwise

/-! ## Bounded numbers and the padding of the codebook -/

/-- A number that is real and of size at most `b`. -/
def Within (b : ℝ) (x : EReal) : Prop := ∃ r : ℝ, x = (r : EReal) ∧ |r| ≤ b

/-- The padding's norm. -/
abbrev huge : EReal := Ideal.ofBits .f32 0x7149F2CA#32

/-- The padding's norm is past `10 ^ 29`. -/
theorem huge_gt : ((10 ^ 29 : ℝ) : EReal) < huge := by
  have h : huge = ((13234890 * 2 ^ 76 : ℝ) : EReal) := by
    simp [huge, Ideal.ofBits, Ideal.ieee, -EReal.coe_mul]
  rw [h, EReal.coe_lt_coe_iff]
  norm_num

/-- The unsigned coordinates of a bounded row are bounded. -/
theorem within_part {b : ℝ} {x : Fin 8 → EReal} (hx : ∀ k, Within b (x k)) (k : Fin 8) : Within b (Spec.part x k) := by
  obtain ⟨r, hr, hb⟩ := hx k
  have e : max (x k) (-(x k)) = ((|r| : ℝ) : EReal) := by
    rw [hr, ← EReal.coe_neg]
    exact (EReal.coe_strictMono.monotone.map_max (a := r) (b := -r)).symm
  unfold Spec.part
  rw [e]
  split
  · exact ⟨-|r|, by rw [EReal.coe_neg], by rwa [abs_neg, abs_abs]⟩
  · exact ⟨|r|, rfl, by rwa [abs_abs]⟩

/-- A bounded score is above the padding's. -/
theorem score_gt {g x : Fin 8 → EReal} {m : EReal} (hg : ∀ k, Within (10 ^ 12) (g k)) (hm : Within (10 ^ 12) m)
    (hx : ∀ k, Within (10 ^ 13) (x k)) : -huge < Spec.score g m x := by
  choose a ha hab using fun k => within_part hx k
  choose c hc hcb using hg
  obtain ⟨n, hn, hnb⟩ := hm
  have e : Spec.score g m x = ((2 * (∑ k, a k * c k) - n : ℝ) : EReal) := by
    unfold Spec.score
    have h2 : (2 : EReal) = ((2 : ℝ) : EReal) := rfl
    simp only [ha, hc, hn, h2, ← EReal.coe_mul]
    rw [EReal.coe_sub, EReal.coe_mul]
    congr 2
  have low : ∀ k, -(10 ^ 25) ≤ a k * c k := fun k => by
    have h : |a k * c k| ≤ 10 ^ 13 * 10 ^ 12 := by
      rw [abs_mul]
      exact mul_le_mul (hab k) (hcb k) (abs_nonneg _) (by positivity)
    have := (abs_le.1 h).1
    linarith
  have sum : -(8 * 10 ^ 25) ≤ ∑ k, a k * c k := by
    have h := Finset.card_nsmul_le_sum (Finset.univ : Finset (Fin 8)) (fun k => a k * c k) (-(10 ^ 25)) fun k _ => low k
    simp only [Finset.card_univ, Fintype.card_fin, nsmul_eq_mul] at h
    push_cast at h
    linarith
  have hn' := (abs_le.1 hnb).2
  rw [e, EReal.neg_lt_comm]
  refine lt_trans ?_ huge_gt
  rw [← EReal.coe_neg, EReal.coe_lt_coe_iff]
  linarith

/-- What the kernel's two tables hold of a codebook `gp` of norms `gn`, codes `cm` and parities `od`. -/
structure Holds (g : FVec Ideal S1408x16 .f32) (a : FVec Ideal S16x1408 .f32) (gp : Fin 1366 → Fin 8 → EReal) (gn : Fin 1366 → EReal)
    (cm : Fin 1366 → BitVec 32) (od : Fin 256 → BitVec 1) : Prop where
  /-- The codebook's rows. -/
  rows : ∀ (j : Fin 1366) (k : Fin 8), g (ix2 (j.castLE (by decide)) (k.castLE (by decide))) = gp j k
  /-- Their norms. -/
  norms : ∀ j : Fin 1366, g (ix2 (j.castLE (by decide)) 8) = gn j
  /-- The rows past the codebook. -/
  padRows : ∀ j : Fin 1408, 1366 ≤ j.val → ∀ k : Fin 8, g (ix2 j (k.castLE (by decide))) = 0
  /-- Their norms. -/
  padNorms : ∀ j : Fin 1408, 1366 ≤ j.val → g (ix2 j 8) = huge
  /-- The codebook's rows, as columns. -/
  cols : ∀ (j : Fin 1366) (k : Fin 8), a (ix2 (k.castLE (by decide)) (j.castLE (by decide))) = gp j k
  /-- Their codes. -/
  marks : ∀ j : Fin 1366, a (ix2 8 (j.castLE (by decide))) = (((cm j).toInt : ℝ) : EReal)
  /-- The bytes of their signs, corrected by the parities of their codes. -/
  bytes : ∀ j : Fin 1366, a (ix2 9 (j.castLE (by decide)))
    = (((Spec.pack fun i => Spec.below (gp j (Spec.perm i)) ^^^ if i = 7 then od (Spec.slot (cm j)) else 0#1).toInt : ℝ) : EReal)

/-- A codebook whose numbers are bounded. -/
structure Bounded (gp : Fin 1366 → Fin 8 → EReal) (gn : Fin 1366 → EReal) : Prop where
  /-- The rows' coordinates. -/
  rows : ∀ j k, Within (10 ^ 12) (gp j k)
  /-- The norms. -/
  norms : ∀ j, Within (10 ^ 12) (gn j)

/-! ## One shifted block at a column -/

/-- The unsigned block. -/
theorem unsigned_at (z : FVec Ideal S8x512 .f32) (k : Fin 8) (l : Fin 512) : unsigned z (ix2 k l) = Spec.part (col z l) k := by
  unfold unsigned
  rw [flip_at, units_at _ _ _ (odds_at (signs z) l _ (fun k => signs_at z k l) 0), mul_unit]
  rfl

/-- The signs of the block. -/
theorem mask_at (z : FVec Ideal S8x512 .f32) (k : Fin 8) (l : Fin 512) : mask z (ix2 k l) = Spec.sign (Spec.neg (col z l)) k := by
  unfold mask
  rw [flip_at, units_at _ _ _ (odds_at (signs z) l _ (fun k => signs_at z k l) 0), units_at _ _ _ (signs_at z k l), mul_unit]
  rfl

/-- The bytes of the signs. -/
theorem bytes_at (p : BitVec 1) (n : IVec S8x512 32) (o : IVec S1x512 32) (l : Fin 512) (b : Fin 8 → BitVec 1)
    (hn : ∀ k, n (ix2 k l) = Spec.wide (b k)) (z : Fin 1) (ho : o (ix2 z l) = Spec.wide (Spec.odd b)) :
    bytes (Spec.wide p) n o (ix2 z l)
      = Spec.pack fun i => (b (Spec.perm i) ^^^ if i = 7 then Spec.odd b else 0#1) ^^^ if i = 0 then p else 0#1 := by
  have one : ∀ p : BitVec 1, (Spec.pack fun i => if i = 0 then p else 0#1) = Spec.wide p := by decide
  have two : ∀ c d : BitVec 1, Spec.wide c ^^^ Spec.wide d = Spec.wide (c ^^^ d) := by decide
  rw [← Spec.pack_xor, one]
  unfold bytes
  have e : ∀ v w : IVec S1x512 32, xori v w (ix2 z l) = v (ix2 z l) ^^^ w (ix2 z l) := fun _ _ => rfl
  have f : ∀ v w : IVec S1x512 32, addi v w (ix2 z l) = v (ix2 z l) + w (ix2 z l) := fun _ _ => rfl
  have h : ∀ v w : IVec S1x512 32, muli v w (ix2 z l) = v (ix2 z l) * w (ix2 z l) := fun _ _ => rfl
  have c : ∀ w : BitVec 32, broadcast S1x512 w (ix2 z l) = w := fun _ => rfl
  simp only [e, f, h, c]
  rw [slice_at n 0 (by decide), slice_at n 2 (by decide), slice_at n 4 (by decide), slice_at n 6 (by decide), slice_at n 1 (by decide),
    slice_at n 3 (by decide), slice_at n 5 (by decide), slice_at n 7 (by decide), ho]
  simp only [hn, two, BitVec.add_assoc]
  unfold Spec.pack
  beta_reduce
  have z7 : ∀ i : Fin 8, i ≠ 7 → (b (Spec.perm i) ^^^ if i = 7 then Spec.odd b else 0#1) = b (Spec.perm i) := fun i hi => by
    rw [if_neg hi, BitVec.xor_zero]
  rw [z7 0 (by decide), z7 1 (by decide), z7 2 (by decide), z7 3 (by decide), z7 4 (by decide), z7 5 (by decide), z7 6 (by decide)]
  rfl

variable {g : FVec Ideal S1408x16 .f32} {a : FVec Ideal S16x1408 .f32} {gp : Fin 1366 → Fin 8 → EReal} {gn : Fin 1366 → EReal}
  {cm : Fin 1366 → BitVec 32} {od : Fin 256 → BitVec 1}

/-- The row chosen for a bounded column is the specification's. -/
theorem choice_at (h : Holds g a gp gn cm od) (hb : Bounded gp gn) (z : FVec Ideal S8x512 .f32) (l : Fin 512)
    (hz : ∀ k, Within (10 ^ 13) (col z l k)) : choice g z (ix1 l) = BitVec.ofNat 32 (Spec.near gp gn (col z l)).val := by
  have real : ∀ j : Fin 1366, scores g (unsigned z) (ix2 (j.castLE (by decide)) l) = Spec.score (gp j) (gn j) (col z l) := fun j => by
    rw [scores_at, h.norms]
    refine congrArg (fun t => 2 * t - gn j) (Finset.sum_congr rfl fun k _ => ?_)
    rw [h.rows, unsigned_at, mul_comm]
  have pad : ∀ j : Fin 1408, 1366 ≤ j.val → scores g (unsigned z) (ix2 j l) = -huge := fun j hj => by
    rw [scores_at, h.padNorms j hj]
    simp only [h.padRows j hj, zero_mul, Finset.sum_const_zero, mul_zero, zero_sub]
  have top := Spec.isTop_top fun j => Spec.score (gp j) (gn j) (col z l)
  refine firsts_at _ l ((Spec.near gp gn (col z l)).castLE (by decide)) ⟨fun j => ?_, fun j hj => ?_⟩
  · show scores g (unsigned z) (ix2 j l) ≤ scores g (unsigned z) (ix2 _ l)
    rw [real]
    by_cases hl : j.val < 1366
    · exact (real ⟨j.val, hl⟩).le.trans (top.1 _)
    · rw [pad j (not_lt.1 hl)]
      exact (score_gt (hb.rows _) (hb.norms _) hz).le
  · have hj' : scores g (unsigned z) (ix2 j l) = scores g (unsigned z) (ix2 _ l) := hj
    rw [real] at hj'
    by_cases hl : j.val < 1366
    · exact top.2 ⟨j.val, hl⟩ ((real ⟨j.val, hl⟩).symm.trans hj')
    · rw [pad j (not_lt.1 hl)] at hj'
      exact absurd hj' (score_gt (hb.rows _) (hb.norms _) hz).ne

/-- What is looked up for a bounded column. -/
theorem found_at (h : Holds g a gp gn cm od) (hb : Bounded gp gn) (z : FVec Ideal S8x512 .f32) (l : Fin 512)
    (hz : ∀ k, Within (10 ^ 13) (col z l k)) (i : Fin 16) :
    found g a z (ix2 i l) = a (ix2 i ((Spec.near gp gn (col z l)).castLE (by decide))) :=
  lookup_col a _ l _ (choice_at h hb z l hz) i

/-- The block quantised. -/
theorem quant_at (h : Holds g a gp gn cm od) (hb : Bounded gp gn) (z : FVec Ideal S8x512 .f32) (l : Fin 512)
    (hz : ∀ k, Within (10 ^ 13) (col z l k)) (k : Fin 8) : quant g a z (ix2 k l) = Spec.val gp gn (col z l) k := by
  unfold quant
  rw [values_at, found_at h hb z l hz, h.cols, mask_at]
  rfl

/-- The squared distances. -/
theorem dists_at (h : Holds g a gp gn cm od) (hb : Bounded gp gn) (z : FVec Ideal S8x512 .f32) (l : Fin 512)
    (hz : ∀ k, Within (10 ^ 13) (col z l k)) (i : Fin 1) : dists g a z (ix2 i l) = Spec.err gp gn (col z l) := by
  unfold dists
  rw [errors_at]
  simp only [quant_at h hb z l hz]
  rfl

/-- The code words. -/
theorem labels_at (h : Holds g a gp gn cm od) (hb : Bounded gp gn) (z : FVec Ideal S8x512 .f32) (l : Fin 512)
    (hz : ∀ k, Within (10 ^ 13) (col z l k)) (i : Fin 1) (p : BitVec 1) :
    labels (Spec.wide p) g a z (ix2 i l) = Spec.word gp gn cm od p (col z l) := by
  unfold labels
  rw [codes_at _ _ i l _ _ ((found_at h hb z l hz 8).trans (h.marks _)) ((found_at h hb z l hz 9).trans (h.bytes _)),
    bytes_at p (signs z) _ l (Spec.neg (col z l)) (fun k => signs_at z k l) i (odds_at _ l _ (fun k => signs_at z k l) i),
    Spec.pack_xor, Spec.or_pack]
  unfold Spec.word
  refine congrArg (fun b => _ + Spec.pack b) (funext fun j => ?_)
  have last : ∀ j : Fin 8, (Spec.perm j = 7) ↔ (j = 7) := by decide
  unfold Spec.bit
  rw [Spec.below_sign]
  simp only [last]
  ac_rfl

/-- The moved blocks' columns. -/
theorem moved_up (x : FVec Ideal S8x512 .f32) (l : Fin 512) : col (moved 0x3E800000#32 x) l = Spec.up (col x l) := rfl

/-- A column moved by minus a quarter is moved down by a quarter. -/
theorem moved_down (x : FVec Ideal S8x512 .f32) (l : Fin 512) : col (moved 0xBE800000#32 x) l = Spec.down (col x l) := by
  funext k
  show x (ix2 k l) + Ideal.ofBits .f32 0xBE800000#32 = x (ix2 k l) - Spec.quarter
  rw [Spec.ofBits_neg_quarter, sub_eq_add_neg]

/-- A bounded column moved up or down is bounded. -/
theorem within_moved {x : Fin 8 → EReal} (hx : ∀ k, Within (10 ^ 12) (x k)) :
    (∀ k, Within (10 ^ 13) (Spec.up x k)) ∧ ∀ k, Within (10 ^ 13) (Spec.down x k) := by
  have hq : Spec.quarter = ((1 / 4 : ℝ) : EReal) := by
    simp [Spec.quarter, Ideal.ofBits, Ideal.ieee, -EReal.coe_mul]
    norm_num
  refine ⟨fun k => ?_, fun k => ?_⟩ <;> obtain ⟨r, hr, hb⟩ := hx k <;> have hb' := abs_le.1 hb
  · exact ⟨r + 1 / 4, by rw [Spec.up, hr, hq, EReal.coe_add], abs_le.2 ⟨by linarith [hb'.1], by linarith [hb'.2]⟩⟩
  · exact ⟨r - 1 / 4, by rw [Spec.down, hr, hq, EReal.coe_sub], abs_le.2 ⟨by linarith [hb'.1], by linarith [hb'.2]⟩⟩

/-- Which shift serves a column better. -/
theorem closer_at (h : Holds g a gp gn cm od) (hb : Bounded gp gn) (x : FVec Ideal S8x512 .f32) (l : Fin 512)
    (hx : ∀ k, Within (10 ^ 12) (col x l k)) (i : Fin 1) :
    closer g a x (ix2 i l) = BitVec.ofBool (decide (Spec.err gp gn (Spec.up (col x l)) < Spec.err gp gn (Spec.down (col x l)))) := by
  have hu := (within_moved hx).1
  have hd := (within_moved hx).2
  rw [← moved_up] at hu ⊢
  rw [← moved_down] at hd ⊢
  unfold closer
  rw [olt_at, dists_at h hb _ l hu, dists_at h hb _ l hd]

/-- **The first result's block**, at a coordinate and a column. -/
theorem values_block (h : Holds g a gp gn cm od) (hb : Bounded gp gn) (x : FVec Ideal S8x512 .f32) (k : Fin 8) (l : Fin 512)
    (hx : ∀ k, Within (10 ^ 12) (col x l k)) :
    select (broadcastTo S8x512 (shapeCast S1x512 (closer g a x) shapeCasts_S1x512_S1x512) broadcasts_S1x512_S8x512)
        (subf (quant g a (moved 0x3E800000#32 x)) (fill S8x512 0x3E800000#32))
        (addf (quant g a (moved 0xBE800000#32 x)) (fill S8x512 0x3E800000#32)) (ix2 k l)
      = Spec.outV gp gn (col x l) k := by
  have hu := (within_moved hx).1
  have hd := (within_moved hx).2
  rw [choose_at, eight_at, shapeCast_self, closer_at h hb x l hx, WordCmp.select_decide, sub_at, add_at, fill_at]
  unfold Spec.outV
  rw [← moved_up] at hu ⊢
  rw [← moved_down] at hd ⊢
  rw [quant_at h hb _ l hu, quant_at h hb _ l hd]

/-- **The second result's block**, at a column. -/
theorem words_block (h : Holds g a gp gn cm od) (hb : Bounded gp gn) (x : FVec Ideal S8x512 .f32) (i : Fin 1) (l : Fin 512)
    (hx : ∀ k, Within (10 ^ 12) (col x l k)) :
    select (closer g a x) (labels 1#32 g a (moved 0x3E800000#32 x)) (labels 0#32 g a (moved 0xBE800000#32 x)) (ix2 i l)
      = Spec.outI gp gn cm od (col x l) := by
  have hu := (within_moved hx).1
  have hd := (within_moved hx).2
  rw [choose_at, closer_at h hb x l hx, WordCmp.select_decide]
  unfold Spec.outI
  rw [← moved_up] at hu ⊢
  rw [← moved_down] at hd ⊢
  rw [← labels_at h hb _ l hu i 1#1, ← labels_at h hb _ l hd i 0#1]
  rfl

end Cert.Body

end
-- ==== Proof.Tables.lean ====
/- The two tables the kernel's host code builds from the codebook, and what they hold. -/
module

public import proofs.«01_k».proof.Proof.Scatters
public import proofs.«01_k».proof.Proof.KernelAt

@[expose] public section

set_option maxRecDepth 16384

noncomputable section

namespace Cert.Tables

open Idealize.ShloMosaic Cert.KernelIdeal Cert.KernelIdeal.Facts₀ Cert.Body

/-- One number all over the codebook's vector. -/
abbrev all (w : BitVec 32) : IVec S1366 32 := broadcastInDim S1366 ![] bcast_S_S1366 (constantI S_ 32 w)

/-- The codes as row numbers of the parity table. -/
def slots (cm : IVec S1366 32) : IVec S1366x1 32 :=
  broadcastInDim S1366x1 ![0] bcast_S1366_S1366x1_0 (select (cmpi .slt cm (all 0#32)) (addi cm (all 256#32)) cm)

/-- The codes' parities as words. -/
def parities (cm : IVec S1366 32) (od : IVec S256 1) : IVec S1366 32 :=
  extui 32 (Host.gather gather_S256_S1366x1_S1366_n_0_n_n_0_1_1 od (slots cm)) natLt_1_32

/-- The order of the coordinates in a byte. -/
def order : IVec S8 32 := fun i => lit0 (S8.rowMajor i)

/-- The order as column numbers of the codebook. -/
def places : IVec S8x1 32 :=
  broadcastInDim S8x1 ![0] bcast_S8_S8x1_0 (select (cmpi .slt order (broadcastInDim S8 ![] bcast_S_S8 (constantI S_ 32 0#32)))
    (addi order (broadcastInDim S8 ![] bcast_S_S8 (constantI S_ 32 8#32))) order)

/-- The codebook's sign bits as words, in the order of a byte. -/
def negs (gp : FVec Ideal S1366x8 .f32) : IVec S1366x8 32 :=
  extui 32 (cmpf (F := Ideal) (φ := .f32) .olt (Host.gather gather_S1366x8_S8x1_S1366x8_0_1_n_n_1_1_13661 gp places)
    (broadcastInDim S1366x8 ![] bcast_S_S1366x8 (constant (F := Ideal) S_ .f32 0x00000000#32))) natLt_1_32

/-- A column as a vector. -/
abbrev flat (v : IVec S1366x1 32) : IVec S1366 32 := shapeCast S1366 v shapeCasts_S1366x1_S1366

/-- The bytes of a table of bits, the highest bit corrected by `q`. -/
def bytesOf (n : IVec S1366x8 32) (q : IVec S1366 32) : IVec S1366 32 :=
  addi (addi (addi (addi (addi (addi (addi
    (muli (flat (extractStridedSlice S1366x1 ![0, 0] n slices_S1366x8_S1366x1_0_0)) (all 1#32))
    (muli (flat (extractStridedSlice S1366x1 ![0, 1] n slices_S1366x8_S1366x1_0_1)) (all 2#32)))
    (muli (flat (extractStridedSlice S1366x1 ![0, 2] n slices_S1366x8_S1366x1_0_2)) (all 4#32)))
    (muli (flat (extractStridedSlice S1366x1 ![0, 3] n slices_S1366x8_S1366x1_0_3)) (all 8#32)))
    (muli (flat (extractStridedSlice S1366x1 ![0, 4] n slices_S1366x8_S1366x1_0_4)) (all 16#32)))
    (muli (flat (extractStridedSlice S1366x1 ![0, 5] n slices_S1366x8_S1366x1_0_5)) (all 32#32)))
    (muli (flat (extractStridedSlice S1366x1 ![0, 6] n slices_S1366x8_S1366x1_0_6)) (all 64#32)))
    (muli (xori (flat (extractStridedSlice S1366x1 ![0, 7] n slices_S1366x8_S1366x1_0_7)) q) (all 128#32))

/-- A pair of index words. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- The first table: the codebook's rows and their norms, padded. -/
def gmat (gp : FVec Ideal S1366x8 .f32) (gn : FVec Ideal S1366 .f32) : FVec Ideal S1408x16 .f32 :=
  Host.scatter scatter_S1408x16_S2_S42_0_1_01_0 (fun _ b => b)
    (Host.scatter scatter_S1408x16_S2_S1366_0_1_01_0 (fun _ b => b)
      (Host.scatter scatter_S1408x16_S2_S1366x8_01_n_01_0 (fun _ b => b)
        (broadcastInDim S1408x16 ![] bcast_S_S1408x16 (constant (F := Ideal) S_ .f32 0x00000000#32)) (pair 0#32 0#32) gp)
      (pair 0#32 8#32) gn)
    (pair 1366#32 8#32) (broadcastInDim S42 ![] bcast_S_S42 (constant (F := Ideal) S_ .f32 0x7149F2CA#32))

/-- The second table: the codebook's rows as columns, their codes and their bytes `w`. -/
def gaug (gp : FVec Ideal S1366x8 .f32) (cm w : IVec S1366 32) : FVec Ideal S16x1408 .f32 :=
  Host.scatter scatter_S16x1408_S2_S1366_0_0_01_0 (fun _ b => b)
    (Host.scatter scatter_S16x1408_S2_S1366_0_0_01_0 (fun _ b => b)
      (Host.scatter scatter_S16x1408_S2_S8x1366_01_n_01_0 (fun _ b => b)
        (broadcastInDim S16x1408 ![] bcast_S_S16x1408 (constant (F := Ideal) S_ .f32 0x00000000#32)) (pair 0#32 0#32)
        (transpose S8x1366 [1, 0] gp transposes_S1366x8_S8x1366_1_0))
      (pair 8#32 0#32) (sitofp (F := Ideal) .f32 cm))
    (pair 9#32 0#32) (sitofp (F := Ideal) .f32 w)

/-! ## The parts read at an entry -/

/-- The first word of a pair. -/
theorem pair_zero (a b : BitVec 32) : pair a b (ix1 (0 : Fin 2)) = a := by
  unfold pair
  pointwise

/-- The second word of a pair. -/
theorem pair_one (a b : BitVec 32) : pair a b (ix1 (1 : Fin 2)) = b := by
  unfold pair
  pointwise

/-- The codes' parities. -/
theorem parities_at (cm : IVec S1366 32) (od : IVec S256 1) (j : Fin 1366) :
    parities cm od (ix1 j) = Spec.wide (ent od (Spec.slot (ent cm j))) := by
  have e : slots cm (ix2 j (0 : Fin 1)) = Scalar.select (IntOp.cmpi .slt (cm (ix1 j)) 0#32) (IntOp.addi (cm (ix1 j)) 256#32) (cm (ix1 j)) := by
    unfold slots
    pointwise
  unfold parities
  have f : ∀ v : IVec S1366 1, extui 32 v natLt_1_32 (ix1 j) = Spec.wide (v (ix1 j)) := fun _ => rfl
  rw [f, gather_entry gather_S256_S1366x1_S1366_n_0_n_n_0_1_1 rfl rfl rfl rfl od (slots cm) j (by decide)]
  simp only [e]
  rfl

/-- The codebook's sign bits. -/
theorem negs_at (gp : FVec Ideal S1366x8 .f32) (j : Fin 1366) (i : Fin 8) :
    negs gp (ix2 j i) = Spec.wide (Spec.below (row gp j (Spec.perm i))) := by
  have h : ∀ i : Fin 8, order (ix1 i) = BitVec.ofNat 32 (Spec.perm i).val := by decide +kernel
  have e : places (ix2 i (0 : Fin 1)) = BitVec.ofNat 32 (Spec.perm i).val := by
    unfold places
    pointwise
    rw [h]
    exact wrap_ofNat _ 8 (by omega)
  unfold negs
  have f : ∀ v : IVec S1366x8 1, extui 32 v natLt_1_32 (ix2 j i) = Spec.wide (v (ix2 j i)) := fun _ => rfl
  have z : broadcastInDim S1366x8 ![] bcast_S_S1366x8 (constant (F := Ideal) S_ .f32 0x00000000#32) (ix2 j i) = 0 := by pointwise
  rw [f, olt_at, z, gather_column gather_S1366x8_S8x1_S1366x8_0_1_n_n_1_1_13661 rfl rfl rfl rfl rfl gp places j i (Spec.perm i)]
  · rfl
  · rw [e, StableHlo.Predicate.toInt_ofNat_small _ (by omega)]
    rfl

/-- One column of a table of bits. -/
theorem flat_at (n : IVec S1366x8 32) (o : ℕ) (ho : o < 8) (h : S1366x8.Slices ![0, o] S1366x1) (j : Fin 1366) :
    flat (extractStridedSlice S1366x1 ![0, o] n h) (ix1 j) = n (ix2 j ⟨o, ho⟩) := by
  pointwise

/-- The bytes, from the bits. -/
theorem bytesOf_at (n : IVec S1366x8 32) (q : IVec S1366 32) (j : Fin 1366) (b : Fin 8 → BitVec 1) (p : BitVec 1)
    (hn : ∀ i, n (ix2 j i) = Spec.wide (b i)) (hq : q (ix1 j) = Spec.wide p) :
    bytesOf n q (ix1 j) = Spec.pack fun i => b i ^^^ if i = 7 then p else 0#1 := by
  have two : ∀ c d : BitVec 1, Spec.wide c ^^^ Spec.wide d = Spec.wide (c ^^^ d) := by decide
  have e : ∀ v w : IVec S1366 32, xori v w (ix1 j) = v (ix1 j) ^^^ w (ix1 j) := fun _ _ => rfl
  have f : ∀ v w : IVec S1366 32, addi v w (ix1 j) = v (ix1 j) + w (ix1 j) := fun _ _ => rfl
  have h : ∀ v w : IVec S1366 32, muli v w (ix1 j) = v (ix1 j) * w (ix1 j) := fun _ _ => rfl
  have c : ∀ w : BitVec 32, all w (ix1 j) = w := fun w => by pointwise
  unfold bytesOf
  simp only [e, f, h, c]
  rw [flat_at n 0 (by decide), flat_at n 1 (by decide), flat_at n 2 (by decide), flat_at n 3 (by decide), flat_at n 4 (by decide),
    flat_at n 5 (by decide), flat_at n 6 (by decide), flat_at n 7 (by decide), hq]
  simp only [hn, two, BitVec.add_assoc]
  unfold Spec.pack
  beta_reduce
  have z7 : ∀ i : Fin 8, i ≠ 7 → (b i ^^^ if i = 7 then p else 0#1) = b i := fun i hi => by rw [if_neg hi, BitVec.xor_zero]
  rw [z7 0 (by decide), z7 1 (by decide), z7 2 (by decide), z7 3 (by decide), z7 4 (by decide), z7 5 (by decide), z7 6 (by decide)]
  rfl

/-- Zeros all over the first table. -/
theorem zeros_at (j : Fin 1408) (k : Fin 16) :
    broadcastInDim S1408x16 ![] bcast_S_S1408x16 (constant (F := Ideal) S_ .f32 0x00000000#32) (ix2 j k) = 0 := by
  pointwise

/-- The padding's norm all over its vector. -/
theorem huge_at (j : Fin 42) : broadcastInDim S42 ![] bcast_S_S42 (constant (F := Ideal) S_ .f32 0x7149F2CA#32) (ix1 j) = huge := by
  pointwise

/-- The codebook turned. -/
theorem turned_at (gp : FVec Ideal S1366x8 .f32) (j : Fin 1366) (k : Fin 8) :
    transpose S8x1366 [1, 0] gp transposes_S1366x8_S8x1366_1_0 (ix2 k j) = gp (ix2 j k) := by
  pointwise

/-- A word as a number. -/
theorem number_at (w : IVec S1366 32) (j : Fin 1366) : sitofp (F := Ideal) .f32 w (ix1 j) = (((w (ix1 j)).toInt : ℝ) : EReal) := rfl

variable (gp : FVec Ideal S1366x8 .f32) (gn : FVec Ideal S1366 .f32) (cm : IVec S1366 32) (od : IVec S256 1)

/-- The first table left of its ninth column. -/
theorem gmat_left (j : Fin 1408) (k : Fin 16) (hk : k.val < 8) :
    gmat gp gn (ix2 j k) = Host.scatter scatter_S1408x16_S2_S1366x8_01_n_01_0 (fun _ b => b)
        (broadcastInDim S1408x16 ![] bcast_S_S1408x16 (constant (F := Ideal) S_ .f32 0x00000000#32)) (pair 0#32 0#32) gp (ix2 j k) := by
  have h8 : (8#32).toInt = 8 := by decide
  unfold gmat
  rw [column_miss scatter_S1408x16_S2_S42_0_1_01_0 rfl rfl rfl _ _ _ j k (.inl (by rw [pair_one, h8]; omega)),
    column_miss scatter_S1408x16_S2_S1366_0_1_01_0 rfl rfl rfl _ _ _ j k (.inl (by rw [pair_one, h8]; omega))]

/-- The second table above its tenth row. -/
theorem gaug_upper (w : IVec S1366 32) (k : Fin 16) (j : Fin 1408) (hk : k.val < 9) :
    gaug gp cm w (ix2 k j) = Host.scatter scatter_S16x1408_S2_S1366_0_0_01_0 (fun _ b => b)
      (Host.scatter scatter_S16x1408_S2_S8x1366_01_n_01_0 (fun _ b => b)
        (broadcastInDim S16x1408 ![] bcast_S_S16x1408 (constant (F := Ideal) S_ .f32 0x00000000#32)) (pair 0#32 0#32)
        (transpose S8x1366 [1, 0] gp transposes_S1366x8_S8x1366_1_0))
      (pair 8#32 0#32) (sitofp (F := Ideal) .f32 cm) (ix2 k j) := by
  have h9 : (9#32).toInt = 9 := by decide
  unfold gaug
  rw [line_miss scatter_S16x1408_S2_S1366_0_0_01_0 rfl rfl rfl _ _ _ k j (by rw [pair_zero, h9]; omega)]

/-- The tables hold the codebook. -/
theorem holds : Holds (gmat gp gn) (gaug gp cm (bytesOf (negs gp) (parities cm od))) (row gp) (ent gn) (ent cm) (ent od) := by
  have h0 : (0#32).toInt = 0 := by decide
  have h8 : (8#32).toInt = 8 := by decide
  have h9 : (9#32).toInt = 9 := by decide
  have hp : (1366#32).toInt = 1366 := by decide
  refine ⟨fun j k => ?_, fun j => ?_, fun j hj k => ?_, fun j hj => ?_, fun j k => ?_, fun j => ?_, fun j => ?_⟩
  · rw [gmat_left gp gn _ _ k.isLt]
    exact block_hit scatter_S1408x16_S2_S1366x8_01_n_01_0 rfl rfl rfl rfl _ _ ((congrArg _ (pair_zero _ _)).trans h0)
      ((congrArg _ (pair_one _ _)).trans h0) gp j k _ _ rfl rfl
  · unfold gmat
    rw [column_miss scatter_S1408x16_S2_S42_0_1_01_0 rfl rfl rfl _ _ _ _ 8 (.inr (.inl (by
      rw [pair_zero, hp]; have := j.isLt; show ((j.val : ℕ) : Int) < 1366; omega)))]
    exact column_hit scatter_S1408x16_S2_S1366_0_1_01_0 rfl rfl rfl _ _ gn j _ 8 (by rw [pair_zero, h0, zero_add]; rfl)
      (by rw [pair_one, h8]; rfl)
  · rw [gmat_left gp gn _ _ k.isLt, block_miss scatter_S1408x16_S2_S1366x8_01_n_01_0 rfl rfl rfl rfl _ _ ((congrArg _ (pair_zero _ _)).trans h0)
      ((congrArg _ (pair_one _ _)).trans h0) gp j _ (.inl hj), zeros_at]
  · unfold gmat
    rw [column_hit scatter_S1408x16_S2_S42_0_1_01_0 rfl rfl rfl _ _ _ ⟨j.val - 1366, by omega⟩ j 8
      (by rw [pair_zero, hp]; show (1366 : Int) + ((j.val - 1366 : ℕ) : Int) = j.val; omega) (by rw [pair_one, h8]; rfl), huge_at]
  · rw [gaug_upper gp cm _ _ _ (by show k.val < 9; omega), line_miss scatter_S16x1408_S2_S1366_0_0_01_0 rfl rfl rfl _ _ _ _ _ (by
      rw [pair_zero, h8]; show (8 : Int) ≠ ((k.val : ℕ) : Int); omega)]
    exact (block_hit scatter_S16x1408_S2_S8x1366_01_n_01_0 rfl rfl rfl rfl _ _ ((congrArg _ (pair_zero _ _)).trans h0)
      ((congrArg _ (pair_one _ _)).trans h0) _ k j _ _ rfl rfl).trans (turned_at gp j k)
  · rw [gaug_upper gp cm _ _ _ (by decide)]
    exact (line_hit scatter_S16x1408_S2_S1366_0_0_01_0 rfl rfl rfl _ _ _ j _ _ (by rw [pair_zero, h8]; rfl)
      (by rw [pair_one, h0, zero_add]; rfl)).trans (number_at cm j)
  · unfold gaug
    refine (line_hit scatter_S16x1408_S2_S1366_0_0_01_0 rfl rfl rfl _ _ _ j _ _ (by rw [pair_zero, h9]; rfl)
      (by rw [pair_one, h0, zero_add]; rfl)).trans ((number_at _ j).trans ?_)
    rw [bytesOf_at (negs gp) (parities cm od) j _ _ (negs_at gp j) (parities_at cm od j)]

end Cert.Tables

end
-- ==== Proof.KernelHost.lean ====
/- What the kernel's host code leaves in the three arrays the region reads. -/
module

public import proofs.«01_k».proof.Proof.Tables
public import Idealize.ShloMosaic.Lib.StableHlo.RunRead

@[expose] public section

set_option maxRecDepth 16384

noncomputable section

namespace Cert.KernelHost

open Idealize.ShloMosaic Idealize.SL.Sem Cert.KernelIdeal Cert.KernelIdeal.Facts₀ Cert.Tables

/-- The contents of one device's buffers. -/
abbrev Vals := Valuation τ sig (Elt Ideal)

/-- What `n` of the operations before the region, from the `a`-th on, make of the contents `V`. -/
def stretch (a n : ℕ) (V : Vals) : Vals := StableHlo.after (((Gen.hostOps0 (F := Ideal)).drop a).take n) V

/-- The contents of a buffer named by its reference. -/
abbrev get (V : Vals) (r : Ref sig .tc) := V (Proc.devRef .tc r)

/-- The first operations leave the arguments as they were. -/
theorem s1_keeps (V : Vals) : ∀ r ∈ ([main_arg0, main_arg1, main_arg2, main_arg3, main_arg4] : List (Ref sig .tc)),
    stretch 0 24 V (no_index (Proc.devRef .tc r)) = V (Proc.devRef .tc r) := by
  simp only [List.forall_mem_cons]
  refine ⟨?_, ?_, ?_, ?_, ?_, fun _ h => nomatch h⟩ <;> (unfold stretch; after_reads_simp)

/-- The parities. -/
theorem s1_v7 (V : Vals) : stretch 0 24 V (no_index (Proc.devRef .tc main_v7)) = parities (get V main_arg3) (get V main_arg4) := by
  unfold stretch; after_reads_simp; (try simp only [StableHlo.TRef.ofBuf_toBuf]); try rfl

/-- The sign bits. -/
theorem s1_v17 (V : Vals) : stretch 0 24 V (no_index (Proc.devRef .tc main_v17)) = negs (get V main_arg1) := by
  unfold stretch; after_reads_simp; (try simp only [StableHlo.TRef.ofBuf_toBuf]); try rfl

/-- The next operations leave the arguments as they were. -/
theorem s2_keeps (V : Vals) : ∀ r ∈ ([main_arg0, main_arg1, main_arg2, main_arg3] : List (Ref sig .tc)),
    stretch 24 48 V (no_index (Proc.devRef .tc r)) = V (Proc.devRef .tc r) := by
  simp only [List.forall_mem_cons]
  refine ⟨?_, ?_, ?_, ?_, fun _ h => nomatch h⟩ <;> (unfold stretch; after_reads_simp)

/-- The bytes. -/
theorem s2_v57 (V : Vals) : stretch 24 48 V (no_index (Proc.devRef .tc main_v57)) = bytesOf (get V main_v17) (get V main_v7) := by
  unfold stretch; after_reads_simp; (try simp only [StableHlo.TRef.ofBuf_toBuf]); try rfl

/-- The first table. -/
theorem s3_v71 (V : Vals) : stretch 72 46 V (no_index (Proc.devRef .tc main_v71)) = gmat (get V main_arg1) (get V main_arg2) := by
  unfold stretch; after_reads_simp; (try simp only [StableHlo.TRef.ofBuf_toBuf]); try rfl

/-- The second table. -/
theorem s3_v87 (V : Vals) :
    stretch 72 46 V (no_index (Proc.devRef .tc main_v87)) = gaug (get V main_arg1) (get V main_arg3) (get V main_v57) := by
  unfold stretch; after_reads_simp; (try simp only [StableHlo.TRef.ofBuf_toBuf]); try rfl

/-- The rows turned. -/
theorem s3_v88 (V : Vals) : stretch 72 46 V (no_index (Proc.devRef .tc main_v88))
    = transpose S8x131072 [1, 0] (get V main_arg0) transposes_S131072x8_S8x131072_1_0 := by
  unfold stretch; after_reads_simp; (try simp only [StableHlo.TRef.ofBuf_toBuf]); try rfl

/-- The operations before the region are their stretches one after another. -/
theorem prefix_split (V : Vals) : StableHlo.after (List.flatten [Gen.hostOps0]) V = stretch 72 46 (stretch 24 48 (stretch 0 24 V)) := by
  unfold stretch
  simp only [← StableHlo.after_append]
  rfl

variable (m : (ℓ : Loc nD τ sig) → Buf (Elt Ideal) ℓ) (c : Dev nD)

/-- The contents of a device's buffers at the start. -/
abbrev start : Vals := fun b => m (c, b)

/-- The region finds the first table in its second array. -/
theorem V_v71 : Gen.V m c main_v71 = gmat (get (start m c) main_arg1) (get (start m c) main_arg2) := by
  show StableHlo.after (List.flatten [Gen.hostOps0]) (start m c) (Proc.devRef .tc main_v71) = _
  rw [prefix_split]
  simp (disch := decide) only [s3_v71, s2_keeps, s1_keeps]

/-- The region finds the second table in its third array. -/
theorem V_v87 : Gen.V m c main_v87 = gaug (get (start m c) main_arg1) (get (start m c) main_arg3)
    (bytesOf (negs (get (start m c) main_arg1)) (parities (get (start m c) main_arg3) (get (start m c) main_arg4))) := by
  show StableHlo.after (List.flatten [Gen.hostOps0]) (start m c) (Proc.devRef .tc main_v87) = _
  rw [prefix_split]
  simp (disch := decide) only [s3_v87, s2_v57, s2_keeps, s1_v7, s1_v17, s1_keeps]

/-- The region finds the rows turned in its first array. -/
theorem V_v88 : Gen.V m c main_v88
    = transpose S8x131072 [1, 0] (get (start m c) main_arg0) transposes_S131072x8_S8x131072_1_0 := by
  show StableHlo.after (List.flatten [Gen.hostOps0]) (start m c) (Proc.devRef .tc main_v88) = _
  rw [prefix_split]
  simp (disch := decide) only [s3_v88, s2_keeps, s1_keeps]

/-- The three arrays hold the codebook. -/
theorem region_holds : Body.Holds (Gen.V m c main_v71) (Gen.V m c main_v87) (row (get (start m c) main_arg1)) (ent (get (start m c) main_arg2))
    (ent (get (start m c) main_arg3)) (ent (get (start m c) main_arg4)) := by
  rw [V_v71, V_v87]
  exact holds _ _ _ _

end Cert.KernelHost

end
-- ==== Proof.KernelRun.lean ====
/- The kernel's run: the two arrays its region fills, and the two results the host code makes of them. -/
module

public import proofs.«01_k».proof.Proof.KernelHost
public import Idealize.ShloMosaic.Lib.Pipeline.ValueKit
public import Idealize.ShloMosaic.Lib.Pipeline.Value
public import Idealize.ShloMosaic.Lib.Claim

@[expose] public section

set_option maxRecDepth 16384

noncomputable section

namespace Cert.KernelRun

open Idealize.ShloMosaic Idealize.SL.Sem Cert.KernelIdeal Cert.KernelIdeal.Facts₀ Cert.KernelHost

variable (m : (ℓ : Loc nD τ sig) → Buf (Elt Ideal) ℓ) (c : Dev nD)

/-- The rows. -/
abbrev xs : FVec Ideal S131072x8 .f32 := get (start m c) main_arg0
/-- The codebook. -/
abbrev gp : Fin 1366 → Fin 8 → EReal := row (get (start m c) main_arg1)
/-- Its norms. -/
abbrev gn : Fin 1366 → EReal := ent (get (start m c) main_arg2)
/-- Its codes. -/
abbrev cm : Fin 1366 → BitVec 32 := ent (get (start m c) main_arg3)
/-- The parities. -/
abbrev od : Fin 256 → BitVec 1 := ent (get (start m c) main_arg4)

/-- A grid point's block of coordinates is its own 512 columns. -/
theorem index_0 : ∀ t : Fin cfg0.N, win0_0.index t = ![0, t.val] := by decide +kernel
/-- Every grid point reads the whole first table. -/
theorem index_1 : ∀ t : Fin cfg0.N, win0_1.index t = ![0, 0] := by decide +kernel
/-- Every grid point reads the whole second table. -/
theorem index_2 : ∀ t : Fin cfg0.N, win0_2.index t = ![0, 0] := by decide +kernel
/-- A grid point writes its own 512 columns of values. -/
theorem index_3 : ∀ t : Fin cfg0.N, win0_3.index t = ![0, t.val] := by decide +kernel
/-- A grid point writes its own slab of words. -/
theorem index_4 : ∀ t : Fin cfg0.N, win0_4.index t = ![t.val, 0, 0] := by decide +kernel

/-- The block of rows a grid point reads. -/
theorem iblk_rows (t : Fin cfg0.N) (k : Fin 8) (l : Fin 512) (r : Fin 131072) (hr : r.val = t.val * 512 + l.val) :
    Gen.iblk m c 0 t (ix2 k l) = row (xs m c) r k := by
  have e : (win0_0.blk t).view.emb (ix2 k l) = ix2 k r := by
    funext a
    refine Fin.ext ?_
    match a with
    | 0 => blk_simp [index_0]
    | 1 => blk_simp [index_0]; simp [hr]
  have turn : ∀ v : FVec Ideal S131072x8 .f32, transpose S8x131072 [1, 0] v transposes_S131072x8_S8x131072_1_0 (ix2 k r) = v (ix2 r k) := fun v => by
    pointwise
  unfold Gen.iblk
  blk_simp
  rw [e]
  exact (congrFun (V_v88 m c) _).trans (turn _)

/-- The first table is read whole. -/
theorem iblk_gmat (t : Fin cfg0.N) : Gen.iblk m c 1 t = Gen.V m c main_v71 := by
  funext y
  unfold Gen.iblk
  blk_simp
  refine congrArg (Gen.V m c main_v71) (funext fun a => Fin.ext ?_)
  match a with
  | 0 => blk_simp [index_1]
  | 1 => blk_simp [index_1]

/-- The second table is read whole. -/
theorem iblk_gaug (t : Fin cfg0.N) : Gen.iblk m c 2 t = Gen.V m c main_v87 := by
  funext y
  unfold Gen.iblk
  blk_simp
  refine congrArg (Gen.V m c main_v87) (funext fun a => Fin.ext ?_)
  match a with
  | 0 => blk_simp [index_2]
  | 1 => blk_simp [index_2]

section blocks

variable (x0 : Vec Ideal S8x512 .f32) (x1 : Vec Ideal S1408x16 .f32) (x2 : Vec Ideal S16x1408 .f32)

/-- The rows as the body loads them. -/
theorem load_rows : Gen.k0_pay36 x0 x1 x2 = x0 := by
  unfold Gen.k0_pay36 Gen.k0_pay6 Gen.r0_0
  rw [View.ld_unit_lit _ _ (by decide)]
  exact shapeCast_self _ _

/-- The first table as the body loads it. -/
theorem load_gmat : Gen.k0_pay37 x0 x1 x2 = x1 := by
  unfold Gen.k0_pay37 Gen.k0_pay7 Gen.r0_1
  rw [View.ld_unit_lit _ _ (by decide)]
  exact shapeCast_self _ _

/-- The second table as the body loads it. -/
theorem load_gaug : Gen.k0_pay38 x0 x1 x2 = x2 := by
  unfold Gen.k0_pay38 Gen.k0_pay8 Gen.r0_2
  rw [View.ld_unit_lit _ _ (by decide)]
  exact shapeCast_self _ _

variable {gp : Fin 1366 → Fin 8 → EReal} {gn : Fin 1366 → EReal} {cm : Fin 1366 → BitVec 32} {od : Fin 256 → BitVec 1}

/-- The block of values the body leaves. -/
theorem out_values (h : Body.Holds x1 x2 gp gn cm od) (hb : Body.Bounded gp gn) (k : Fin 8) (l : Fin 512)
    (hx : ∀ k, Body.Within (10 ^ 12) (col x0 l k)) : Gen.out0_3 x0 x1 x2 (ix2 k l) = Spec.outV gp gn (col x0 l) k := by
  rw [Body.store_values, load_rows, load_gmat, load_gaug]
  unfold Gen.r0_0
  rw [View.canon_cons_unit_lit _ _ _ (by decide)]
  exact Body.values_block h hb x0 k l hx

/-- The block of code words the body leaves. -/
theorem out_words (h : Body.Holds x1 x2 gp gn cm od) (hb : Body.Bounded gp gn) (z z' : Fin 1) (l : Fin 512)
    (hx : ∀ k, Body.Within (10 ^ 12) (col x0 l k)) : Gen.out0_4 x0 x1 x2 (ix3 z z' l) = Spec.outI gp gn cm od (col x0 l) := by
  have flat : ∀ v : IVec S1x512 32, shapeCast S1x1x512 v shapeCasts_S1x512_S1x1x512 (ix3 z z' l) = v (ix2 0 l) := fun v => by pointwise
  rw [Body.store_words, load_rows, load_gmat, load_gaug]
  unfold Gen.r0_3
  rw [View.canon_cons_unit_lit _ _ _ (by decide), flat]
  exact Body.words_block h hb x0 0 l hx

end blocks

variable (hb : Body.Bounded (gp m c) (gn m c)) (hx : ∀ r k, Body.Within (10 ^ 12) (row (xs m c) r k))

include hb hx

/-- A grid point's block of the values. -/
theorem point_values (t : Fin cfg0.N) (k : Fin 8) (l : Fin 512) (r : Fin 131072) (hr : r.val = t.val * 512 + l.val) :
    Gen.out0_3 (Gen.iblk m c 0 t) (Gen.iblk m c 1 t) (Gen.iblk m c 2 t) (ix2 k l) = Spec.outV (gp m c) (gn m c) (row (xs m c) r) k := by
  have e : col (Gen.iblk m c 0 t) l = row (xs m c) r := funext fun k => iblk_rows m c t k l r hr
  rw [iblk_gmat, iblk_gaug]
  rw [out_values _ _ _ (region_holds m c) hb k l fun k => (congrFun e k).symm ▸ hx r k, e]

/-- A grid point's block of the code words. -/
theorem point_words (t : Fin cfg0.N) (z z' : Fin 1) (l : Fin 512) (r : Fin 131072) (hr : r.val = t.val * 512 + l.val) :
    Gen.out0_4 (Gen.iblk m c 0 t) (Gen.iblk m c 1 t) (Gen.iblk m c 2 t) (ix3 z z' l)
      = Spec.outI (gp m c) (gn m c) (cm m c) (od m c) (row (xs m c) r) := by
  have e : col (Gen.iblk m c 0 t) l = row (xs m c) r := funext fun k => iblk_rows m c t k l r hr
  rw [iblk_gmat, iblk_gaug]
  rw [out_words _ _ _ (region_holds m c) hb z z' l fun k => (congrFun e k).symm ▸ hx r k, e]

/-- The first array after the region. -/
theorem arr_values : (Gen.dats m 0 c).arrAt 3 (cfgs 0).N = fun i : S8x131072.Idx => Spec.outV (gp m c) (gn m c) (row (xs m c) (i 1)) (i 0) := by
  refine (Gen.dats m 0 c).arrAt_eq_of_covers 3 _ (by decide +kernel) fun t hf y => ?_
  blk_simp
  rw [Gen.after0_3]
  have e0 : (win0_3.blk t).view.emb y 0 = y 0 := Fin.ext (by blk_simp [index_3])
  rw [e0]
  refine (congrArg (Gen.out0_3 _ _ _) (eq_ix2 (show S8x512.Idx from y))).trans
    (point_values m c hb hx t ((show S8x512.Idx from y) 0) ((show S8x512.Idx from y) 1) _ (by blk_simp [index_3]))

/-- The second array after the region. -/
theorem arr_words : (Gen.dats m 0 c).arrAt 4 (cfgs 0).N
    = fun i : S256x1x512.Idx => Spec.outI (gp m c) (gn m c) (cm m c) (od m c) (row (xs m c) ⟨(i 0).val * 512 + (i 2).val, by
      have h0 : (i 0).val < 256 := (i 0).isLt
      have h2 : (i 2).val < 512 := (i 2).isLt
      omega⟩) := by
  refine (Gen.dats m 0 c).arrAt_eq_of_covers 4 _ (by decide +kernel) fun t hf y => ?_
  blk_simp
  rw [Gen.after0_4]
  refine (congrArg (Gen.out0_4 _ _ _) (eq_ix3 (show S1x1x512.Idx from y))).trans
    (point_words m c hb hx t ((show S1x1x512.Idx from y) 0) ((show S1x1x512.Idx from y) 1) ((show S1x1x512.Idx from y) 2) _
      (by simp [index_4]))

omit hb hx in
/-- What the tail reads of a window's array is what the pipeline leaves in it. -/
theorem region_array (w : Fin 5) :
    Pipeline.withArrays (cfgs 0).spec c (Gen.V0 m c) (fun w => (Gen.dats m 0 c).arrAt w (cfgs 0).N) (Proc.tc.devRef (Pipeline.arrRef (cfgs 0).spec w))
      = (Gen.dats m 0 c).arrAt w (cfgs 0).N :=
  Pipeline.withArrays_arr (cfgs 0).spec (by decide) c (Gen.V0 m c) (fun w => (Gen.dats m 0 c).arrAt w (cfgs 0).N) w

/-- The first result: the first array turned. -/
theorem result_values (r : Fin 131072) (k : Fin 8) :
    Pipeline.afterTail₀ cfgs (Gen.dats m) 0 (Gen.V0 m) [Gen.hostOps1] c main_v90 (ix2 r k) = Spec.outV (gp m c) (gn m c) (row (xs m c) r) k := by
  have turn : ∀ v : FVec Ideal S8x131072 .f32, transpose S131072x8 [1, 0] v transposes_S8x131072_S131072x8_1_0 (ix2 r k) = v (ix2 k r) := fun v => by
    pointwise
  unfold Pipeline.afterTail₀
  after_reads_simp
  exact (turn _).trans (congrFun ((region_array m c 3).trans (arr_values m c hb hx)) (ix2 k r))

/-- The second result: the second array in one line. -/
theorem result_words (r : Fin 131072) :
    Pipeline.afterTail₀ cfgs (Gen.dats m) 0 (Gen.V0 m) [Gen.hostOps1] c main_v91 (ix1 r)
      = Spec.outI (gp m c) (gn m c) (cm m c) (od m c) (row (xs m c) r) := by
  have flat : ∀ v : IVec S256x1x512 32, shapeCast S131072 v shapeCasts_S256x1x512_S131072 (ix1 r)
      = v (ix3 ⟨r.val / 512, by omega⟩ 0 ⟨r.val % 512, by omega⟩) := fun v => by
    pointwise
  unfold Pipeline.afterTail₀
  after_reads_simp
  refine (flat _).trans ((congrFun ((region_array m c 4).trans (arr_words m c hb hx)) (ix3 ⟨r.val / 512, by omega⟩ 0 ⟨r.val % 512, by omega⟩)).trans ?_)
  exact congrArg (fun q => Spec.outI (gp m c) (gn m c) (cm m c) (od m c) (row (xs m c) q)) (Fin.ext (Nat.div_add_mod' r.val 512))

omit hb hx in
/-- The kernel runs and ends, on every device, with what its tail leaves in the two results and with its arguments as launched. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v90) = Pipeline.afterTail₀ cfgs (Gen.dats m) 0 (Gen.V0 m) [Gen.hostOps1] c main_v90
      ∧ r.2.mem ((c.tc : Thread nD τ).loc main_v91) = Pipeline.afterTail₀ cfgs (Gen.dats m) 0 (Gen.V0 m) [Gen.hostOps1] c main_v91
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (θ_run_and (Gen.run_main m g) (Gen.unchanged m g)) fun r h c => ⟨?_, ?_, h.2 c⟩
  · exact (h.1 c).2 main_v90 (Pipeline.mem_restRefs_of main_v90 (by decide) (by decide))
  · exact (h.1 c).2 main_v91 (Pipeline.mem_restRefs_of main_v91 (by decide) (by decide))

end Cert.KernelRun

end
-- ==== Proof.RefTerm.lean ====
/- The reference's two results as whole-array terms of its arguments, one definition per step of its text. -/
module

public import proofs.«01_k».proof.Defs
public import proofs.«01_k».proof.Proof.Gen.ReferenceIdeal

@[expose] public section

set_option maxRecDepth 16384

noncomputable section

namespace Cert.Ref

open Idealize.ShloMosaic Idealize.SL.Sem Cert.ReferenceIdeal Cert.ReferenceIdeal.Facts₀

/-- A float scalar spread over the array of rows. -/
def spread (b : BitVec 32) : FVec Ideal S131072x8 .f32 :=
  broadcastInDim S131072x8 ![] bcast_S_S131072x8 (constant S_ .f32 b)

/-- An integer scalar spread over the rows. -/
def rows {n : ℕ} (b : BitVec n) : IVec S131072 n :=
  broadcastInDim S131072 ![] bcast_S_S131072 (constantI S_ n b)

/-- Which coordinates are negative. -/
def negs (x : FVec Ideal S131072x8 .f32) : IVec S131072x8 1 := cmpf .olt x (spread 0x00000000#32)

/-- How many bits of each row are set. -/
def count (n : IVec S131072x8 1) : IVec S131072 32 :=
  Host.reduce IntOp.addi (extui 32 n natLt_1_32) (constantI S_ 32 0#32) reducesTo_S131072x8_S131072_d1 h_S_

/-- A divisor as the remainder prepares it: one in place of zero. -/
def divisor (d : IVec S_ 32) : IVec S_ 32 := select (cmpi .eq (id d) (constantI S_ 32 0#32)) (constantI S_ 32 1#32) (id d)

/-- The remainder of a vector of counts by `d`, of the divisor's sign. -/
def remainder (d : IVec S_ 32) (y : IVec S131072 32) : IVec S131072 32 :=
  select (andi (cmpi .ne (cmpi .slt (Host.remsi y (broadcastInDim S131072 ![] bcast_S_S131072 (divisor d))) (rows 0#32))
      (broadcastInDim S131072 ![] bcast_S_S131072 (cmpi .slt (divisor d) (constantI S_ 32 0#32))))
    (cmpi .ne (Host.remsi y (broadcastInDim S131072 ![] bcast_S_S131072 (divisor d))) (rows 0#32)))
    (addi (Host.remsi y (broadcastInDim S131072 ![] bcast_S_S131072 (divisor d))) (broadcastInDim S131072 ![] bcast_S_S131072 (divisor d)))
    (Host.remsi y (broadcastInDim S131072 ![] bcast_S_S131072 (divisor d)))

/-- Where the sign is flipped, given the remainders `h`: the last coordinate of an odd row. -/
def flips (h : IVec S131072 32) : IVec S131072x8 1 :=
  andi (broadcastInDim S131072x8 ![0, 1] bcast_S1x8_S131072x8_0_1 (broadcastInDim S1x8 ![1] bcast_S8_S1x8_1
      (cmpi .eq (iotaInDim S8 32 0) (broadcastInDim S8 ![] bcast_S_S8 (constantI S_ 32 7#32)))))
    (broadcastInDim S131072x8 ![0, 1] bcast_S131072x1_S131072x8_0_1 (broadcastInDim S131072x1 ![0] bcast_S131072_S131072x1_0
      (cmpi .eq h (rows 1#32))))

/-- The values `a`, negated where `f` says so. -/
def flipped (f : IVec S131072x8 1) (a : FVec Ideal S131072x8 .f32) : FVec Ideal S131072x8 .f32 := select f (Host.negf a) a

/-- One less twice the sign bit. -/
def signs (n : IVec S131072x8 1) : FVec Ideal S131072x8 .f32 :=
  subf (spread 0x3F800000#32) (mulf (spread 0x40000000#32) (uitofp .f32 n))

/-- The remainders by two of the numbers of negative coordinates. -/
def oddness (x : FVec Ideal S131072x8 .f32) : IVec S131072 32 := remainder (constantI S_ 32 2#32) (count (negs x))

/-- The rows' absolute values, the last one of an odd row negated. -/
def parts (x : FVec Ideal S131072x8 .f32) : FVec Ideal S131072x8 .f32 := flipped (flips (oddness x)) (Host.absf x)

/-- The rows' signs, the last one of an odd row flipped. -/
def masks (x : FVec Ideal S131072x8 .f32) : FVec Ideal S131072x8 .f32 := flipped (flips (oddness x)) (signs (negs x))

/-- Each row's scores against the codebook, from the rows' unsigned parts. -/
def scores (gp : FVec Ideal S1366x8 .f32) (gn : FVec Ideal S1366 .f32) (p : FVec Ideal S131072x8 .f32) : FVec Ideal S131072x1366 .f32 :=
  subf (mulf (broadcastInDim S131072x1366 ![] bcast_S_S131072x1366 (constant S_ .f32 0x40000000#32))
      (Host.dotGeneral dot_S131072x8_S8x1366_S131072x1366_1_0_0_1_n_n none p (transpose S8x1366 [1, 0] gp transposes_S1366x8_S8x1366_1_0)))
    (broadcastInDim S131072x1366 ![0, 1] bcast_S1x1366_S131072x1366_0_1 (broadcastInDim S1x1366 ![1] bcast_S1366_S1x1366_1 gn))

/-- The first index of each row's greatest score. -/
def best (s : FVec Ideal S131072x1366 .f32) : IVec S131072 32 :=
  fun j => (Host.argReduce reducer_argmax_f32_i32 s (iotaInDim S131072x1366 32 1) (constant S_ .f32 0xFF800000#32)
    (constantI S_ 32 0#32) reducesTo_S131072x1366_S131072_d1 h_S_ j).2

/-- A vector of row numbers as a gather's start indices, a negative one counted from the end `b`. -/
def starts (b : BitVec 32) (q : IVec S131072 32) : IVec S131072x1 32 :=
  broadcastInDim S131072x1 ![0] bcast_S131072_S131072x1_0 (select (cmpi .slt q (rows 0#32)) (addi q (rows b)) q)

/-- The codebook rows of the given numbers. -/
def picked (gp : FVec Ideal S1366x8 .f32) (q : IVec S131072 32) : FVec Ideal S131072x8 .f32 :=
  Host.gather gather_S1366x8_S131072x1_S131072x8_1_0_n_n_0_1_18 gp (starts 1366#32 q)

/-- The distances of the rows `x` from the rows `v`. -/
def errs (x v : FVec Ideal S131072x8 .f32) : FVec Ideal S131072 .f32 :=
  Host.sqrt (Host.reduceAdd (mulf (subf x v) (subf x v)) (constant S_ .f32 0x00000000#32) reducesTo_S131072x8_S131072_d1 h_S_)

/-- The codes of the given row numbers. -/
def codes (cm : IVec S1366 32) (q : IVec S131072 32) : IVec S131072 32 :=
  Host.gather gather_S1366_S131072x1_S131072_n_0_n_n_0_1_1 cm (starts 1366#32 q)

/-- The order of the coordinates in a code's low byte, as a gather's start indices. -/
def order (l : IVec S8 32) : IVec S8x1 32 :=
  broadcastInDim S8x1 ![0] bcast_S8_S8x1_0
    (select (cmpi .slt l (broadcastInDim S8 ![] bcast_S_S8 (constantI S_ 32 0#32)))
      (addi l (broadcastInDim S8 ![] bcast_S_S8 (constantI S_ 32 8#32))) l)

/-- Column `b` of an array of bits replaced by `u`. -/
def put (b : BitVec 32) (s : IVec S131072x8 1) (u : IVec S131072 1) : IVec S131072x8 1 :=
  Host.scatter scatter_S131072x8_S1_S131072_0_1_1_0 (fun _ b => b) s (broadcastInDim S1 ![] bcast_S_S1 (constantI S_ 32 b)) u

/-- Which signs of the codebook row `r` and of the mask `k` differ, in the order `l`. -/
def diffs (l : IVec S8 32) (r k : FVec Ideal S131072x8 .f32) : IVec S131072x8 1 :=
  Host.gather gather_S131072x8_S8x1_S131072x8_0_1_n_n_1_1_1310721
    (xori (cmpf .olt r (spread 0x00000000#32)) (cmpf .olt k (spread 0x00000000#32))) (order l)

/-- The parities that belong to the codes. -/
def pars (od : IVec S256 1) (cd : IVec S131072 32) : IVec S131072 1 :=
  Host.gather gather_S256_S131072x1_S131072_n_0_n_n_0_1_1 od (starts 256#32 cd)

/-- The sign bits `s` with the last one corrected by the code's parity. -/
def bits7 (od : IVec S256 1) (cd : IVec S131072 32) (s : IVec S131072x8 1) : IVec S131072x8 1 :=
  put 7#32 s (xori (shapeCast S131072 (extractStridedSlice S131072x1 ![0, 7] s slices_S131072x8_S131072x1_0_7)
    shapeCasts_S131072x1_S131072) (pars od cd))

/-- The sign bits `s` with the first one corrected by the shift's bit `p`. -/
def bits0 (p : BitVec 1) (s : IVec S131072x8 1) : IVec S131072x8 1 :=
  put 0#32 s (xori (shapeCast S131072 (extractStridedSlice S131072x1 ![0, 0] s slices_S131072x8_S131072x1_0_0)
    shapeCasts_S131072x1_S131072) (rows p))

/-- A code word: the code above the low byte that the bits `s` weigh to. -/
def idxs (bm : IVec S8 32) (cd : IVec S131072 32) (s : IVec S131072x8 1) : IVec S131072 32 :=
  addi (Host.shli cd (rows 8#32))
    (Host.reduce IntOp.addi (muli (extui 32 s natLt_1_32)
      (broadcastInDim S131072x8 ![0, 1] bcast_S1x8_S131072x8_0_1 (broadcastInDim S1x8 ![1] bcast_S8_S1x8_1 bm)))
      (constantI S_ 32 0#32) reducesTo_S131072x8_S131072_d1 h_S_)

/-- The rows moved up by a quarter. -/
def up (x : FVec Ideal S131072x8 .f32) : FVec Ideal S131072x8 .f32 := addf x (spread 0x3E800000#32)

/-- The rows moved down by a quarter. -/
def down (x : FVec Ideal S131072x8 .f32) : FVec Ideal S131072x8 .f32 := subf x (spread 0x3E800000#32)

/-- The order that the first shift's text reads. -/
def order₀ : IVec S8 32 := fun i => lit0 (S8.rowMajor i)

/-- The order that the second shift's text reads. -/
def order₁ : IVec S8 32 := fun i => lit1 (S8.rowMajor i)

/-- The chosen row numbers of one shift. -/
def near (gp : FVec Ideal S1366x8 .f32) (gn : FVec Ideal S1366 .f32) (x : FVec Ideal S131072x8 .f32) : IVec S131072 32 :=
  best (scores gp gn (parts x))

/-- The quantised values of one shift. -/
def vals (gp : FVec Ideal S1366x8 .f32) (gn : FVec Ideal S1366 .f32) (x : FVec Ideal S131072x8 .f32) : FVec Ideal S131072x8 .f32 :=
  mulf (picked gp (near gp gn x)) (masks x)

/-- The code words of one shift. -/
def words (l : IVec S8 32) (p : BitVec 1) (gp : FVec Ideal S1366x8 .f32) (gn : FVec Ideal S1366 .f32) (cm : IVec S1366 32) (od : IVec S256 1)
    (bm : IVec S8 32) (x : FVec Ideal S131072x8 .f32) : IVec S131072 32 :=
  idxs bm (codes cm (near gp gn x)) (bits0 p (bits7 od (codes cm (near gp gn x)) (diffs l (picked gp (near gp gn x)) (masks x))))

/-- Which rows the shift up serves better. -/
def better (gp : FVec Ideal S1366x8 .f32) (gn : FVec Ideal S1366 .f32) (x : FVec Ideal S131072x8 .f32) : IVec S131072 1 :=
  cmpf .olt (errs (up x) (vals gp gn (up x))) (errs (down x) (vals gp gn (down x)))

/-- The reference's first result. -/
def outV (gp : FVec Ideal S1366x8 .f32) (gn : FVec Ideal S1366 .f32) (x : FVec Ideal S131072x8 .f32) : FVec Ideal S131072x8 .f32 :=
  select (broadcastInDim S131072x8 ![0, 1] bcast_S131072x1_S131072x8_0_1 (broadcastInDim S131072x1 ![0] bcast_S131072_S131072x1_0 (better gp gn x)))
    (subf (vals gp gn (up x)) (spread 0x3E800000#32)) (addf (vals gp gn (down x)) (spread 0x3E800000#32))

/-- The reference's second result. -/
def outI (gp : FVec Ideal S1366x8 .f32) (gn : FVec Ideal S1366 .f32) (cm : IVec S1366 32) (od : IVec S256 1) (bm : IVec S8 32)
    (x : FVec Ideal S131072x8 .f32) : IVec S131072 32 :=
  select (better gp gn x) (words order₀ 1#1 gp gn cm od bm (up x)) (words order₁ 0#1 gp gn cm od bm (down x))

end Cert.Ref

end
-- ==== Proof.RefRun.lean ====
/- The reference's run: its operations in stretches, what each leaves behind, and the two results it ends with. -/
module

public import proofs.«01_k».proof.Proof.RefTerm
public import Idealize.ShloMosaic.Lib.Claim
public import Idealize.ShloMosaic.Lib.Quiescent
public import Idealize.ShloMosaic.Lib.StableHlo.RunRead

@[expose] public section

set_option maxRecDepth 16384

noncomputable section

namespace Cert.RefRun

open Idealize.ShloMosaic Idealize.SL.Sem Cert.ReferenceIdeal Cert.ReferenceIdeal.Facts₀ Cert.Ref

/-- The reference's operations, read off its text, in their order. -/
def line : { ops : List (HloOp τ sig (Elt Ideal)) // ∀ d : Dev nD, StableHlo.IsSeq (nD := nD) (main (F := Ideal) d) ops } :=
  by apply Subtype.mk; hlo_seq

/-- The contents of one device's buffers. -/
abbrev Vals := Valuation τ sig (Elt Ideal)

/-- What `n` operations of the line from the `a`-th on make of the contents `V`. -/
def stretch (a n : ℕ) (V : Vals) : Vals := StableHlo.after ((line.1.drop a).take n) V

/-- The contents of a buffer named by its reference. -/
abbrev get (V : Vals) (r : Ref sig .tc) := V (Proc.devRef .tc r)

/-- What the stretch `0`, `13` leaves as it was. -/
theorem s1_keeps (V : Vals) : ∀ r ∈ ([main_arg0, main_arg1, main_arg2, main_arg3, main_arg4, main_arg5] : List (Ref sig .tc)), stretch 0 13 V (no_index (Proc.devRef .tc r)) = V (Proc.devRef .tc r) := by
  simp only [List.forall_mem_cons]
  refine ⟨?_, ?_, ?_, ?_, ?_, ?_, fun _ h => nomatch h⟩ <;> (unfold stretch; after_reads_simp)

/-- The first order table. -/
theorem s1_c (V : Vals) : stretch 0 13 V (no_index (Proc.devRef .tc main_c)) = order₀ := by
  unfold stretch; after_reads_simp; (try simp only [StableHlo.TRef.ofBuf_toBuf]); try rfl

/-- The second order table. -/
theorem s1_c_0 (V : Vals) : stretch 0 13 V (no_index (Proc.devRef .tc main_c_0)) = order₁ := by
  unfold stretch; after_reads_simp; (try simp only [StableHlo.TRef.ofBuf_toBuf]); try rfl

/-- The rows moved up. -/
theorem s1_v1 (V : Vals) : stretch 0 13 V (no_index (Proc.devRef .tc main_v1)) = up (get V main_arg0) := by
  unfold stretch; after_reads_simp; (try simp only [StableHlo.TRef.ofBuf_toBuf]); try rfl

/-- Their absolute values. -/
theorem s1_v2 (V : Vals) : stretch 0 13 V (no_index (Proc.devRef .tc main_v2)) = Host.absf (up (get V main_arg0)) := by
  unfold stretch; after_reads_simp; (try simp only [StableHlo.TRef.ofBuf_toBuf]); try rfl

/-- Their negative coordinates. -/
theorem s1_v4 (V : Vals) : stretch 0 13 V (no_index (Proc.devRef .tc main_v4)) = negs (up (get V main_arg0)) := by
  unfold stretch; after_reads_simp; (try simp only [StableHlo.TRef.ofBuf_toBuf]); try rfl

/-- How many of them there are. -/
theorem s1_v6 (V : Vals) : stretch 0 13 V (no_index (Proc.devRef .tc main_v6)) = count (negs (up (get V main_arg0))) := by
  unfold stretch; after_reads_simp; (try simp only [StableHlo.TRef.ofBuf_toBuf]); try rfl

/-- The divisor. -/
theorem s1_c_3 (V : Vals) : stretch 0 13 V (no_index (Proc.devRef .tc main_c_3)) = constantI S_ 32 2#32 := by
  unfold stretch; after_reads_simp; (try simp only [StableHlo.TRef.ofBuf_toBuf]); try rfl

/-- What the stretch `13`, `21` leaves as it was. -/
theorem t1_keeps (V : Vals) : ∀ r ∈ ([main_arg0, main_arg1, main_arg2, main_arg3, main_arg4, main_arg5, main_c, main_c_0, main_v1, main_v2, main_v4] : List (Ref sig .tc)), stretch 13 21 V (no_index (Proc.devRef .tc r)) = V (Proc.devRef .tc r) := by
  simp only [List.forall_mem_cons]
  refine ⟨?_, ?_, ?_, ?_, ?_, ?_, ?_, ?_, ?_, ?_, ?_, fun _ h => nomatch h⟩ <;> (unfold stretch; after_reads_simp)

/-- The remainders. -/
theorem t1_v7 (V : Vals) : stretch 13 21 V (no_index (Proc.devRef .tc main_v7)) = remainder (get V main_c_3) (get V main_v6) := by
  unfold stretch; after_reads_simp; (try simp only [StableHlo.TRef.ofBuf_toBuf]); try rfl

/-- What the stretch `34`, `23` leaves as it was. -/
theorem u1_keeps (V : Vals) : ∀ r ∈ ([main_arg0, main_arg1, main_arg2, main_arg3, main_arg4, main_arg5, main_c, main_c_0, main_v1] : List (Ref sig .tc)), stretch 34 23 V (no_index (Proc.devRef .tc r)) = V (Proc.devRef .tc r) := by
  simp only [List.forall_mem_cons]
  refine ⟨?_, ?_, ?_, ?_, ?_, ?_, ?_, ?_, ?_, fun _ h => nomatch h⟩ <;> (unfold stretch; after_reads_simp)

/-- The unsigned parts. -/
theorem u1_v19 (V : Vals) : stretch 34 23 V (no_index (Proc.devRef .tc main_v19)) = flipped (flips (get V main_v7)) (get V main_v2) := by
  unfold stretch; after_reads_simp; (try simp only [StableHlo.TRef.ofBuf_toBuf]); try rfl

/-- The signs. -/
theorem u1_v26 (V : Vals) : stretch 34 23 V (no_index (Proc.devRef .tc main_v26)) = flipped (flips (get V main_v7)) (signs (get V main_v4)) := by
  unfold stretch; after_reads_simp; (try simp only [StableHlo.TRef.ofBuf_toBuf]); try rfl

/-- What the stretch `57`, `13` leaves as it was. -/
theorem s2_keeps (V : Vals) : ∀ r ∈ ([main_arg0, main_arg1, main_arg2, main_arg3, main_arg4, main_arg5, main_c, main_c_0, main_v1, main_v26] : List (Ref sig .tc)), stretch 57 13 V (no_index (Proc.devRef .tc r)) = V (Proc.devRef .tc r) := by
  simp only [List.forall_mem_cons]
  refine ⟨?_, ?_, ?_, ?_, ?_, ?_, ?_, ?_, ?_, ?_, fun _ h => nomatch h⟩ <;> (unfold stretch; after_reads_simp)

/-- The chosen row numbers. -/
theorem s2_v34 (V : Vals) : stretch 57 13 V (no_index (Proc.devRef .tc main_v34)) = best (scores (get V main_arg1) (get V main_arg2) (get V main_v19)) := by
  unfold stretch; after_reads_simp; (try simp only [StableHlo.TRef.ofBuf_toBuf]); try rfl

/-- What the stretch `70`, `24` leaves as it was. -/
theorem s3_keeps (V : Vals) : ∀ r ∈ ([main_arg0, main_arg1, main_arg2, main_arg3, main_arg4, main_arg5, main_c, main_c_0, main_v26] : List (Ref sig .tc)), stretch 70 24 V (no_index (Proc.devRef .tc r)) = V (Proc.devRef .tc r) := by
  simp only [List.forall_mem_cons]
  refine ⟨?_, ?_, ?_, ?_, ?_, ?_, ?_, ?_, ?_, fun _ h => nomatch h⟩ <;> (unfold stretch; after_reads_simp)

/-- The chosen rows. -/
theorem s3_v41 (V : Vals) : stretch 70 24 V (no_index (Proc.devRef .tc main_v41)) = picked (get V main_arg1) (get V main_v34) := by
  unfold stretch; after_reads_simp; (try simp only [StableHlo.TRef.ofBuf_toBuf]); try rfl

/-- The values. -/
theorem s3_v42 (V : Vals) : stretch 70 24 V (no_index (Proc.devRef .tc main_v42)) = mulf (picked (get V main_arg1) (get V main_v34)) (get V main_v26) := by
  unfold stretch; after_reads_simp; (try simp only [StableHlo.TRef.ofBuf_toBuf]); try rfl

/-- The distances. -/
theorem s3_v46 (V : Vals) : stretch 70 24 V (no_index (Proc.devRef .tc main_v46)) = errs (get V main_v1) (mulf (picked (get V main_arg1) (get V main_v34)) (get V main_v26)) := by
  unfold stretch; after_reads_simp; (try simp only [StableHlo.TRef.ofBuf_toBuf]); try rfl

/-- The codes. -/
theorem s3_v53 (V : Vals) : stretch 70 24 V (no_index (Proc.devRef .tc main_v53)) = codes (get V main_arg3) (get V main_v34) := by
  unfold stretch; after_reads_simp; (try simp only [StableHlo.TRef.ofBuf_toBuf]); try rfl

/-- What the stretch `94`, `49` leaves as it was. -/
theorem s4_keeps (V : Vals) : ∀ r ∈ ([main_arg0, main_arg1, main_arg2, main_arg3, main_arg4, main_arg5, main_c_0, main_v42, main_v46] : List (Ref sig .tc)), stretch 94 49 V (no_index (Proc.devRef .tc r)) = V (Proc.devRef .tc r) := by
  simp only [List.forall_mem_cons]
  refine ⟨?_, ?_, ?_, ?_, ?_, ?_, ?_, ?_, ?_, fun _ h => nomatch h⟩ <;> (unfold stretch; after_reads_simp)

/-- The code words. -/
theorem s4_v91 (V : Vals) : stretch 94 49 V (no_index (Proc.devRef .tc main_v91)) = idxs (get V main_arg5) (get V main_v53) (bits0 1#1 (bits7 (get V main_arg4) (get V main_v53) (diffs (get V main_c) (get V main_v41) (get V main_v26)))) := by
  unfold stretch; after_reads_simp; (try simp only [StableHlo.TRef.ofBuf_toBuf]); try rfl

/-- What the stretch `143`, `11` leaves as it was. -/
theorem s5_keeps (V : Vals) : ∀ r ∈ ([main_arg0, main_arg1, main_arg2, main_arg3, main_arg4, main_arg5, main_c_0, main_v42, main_v46, main_v91] : List (Ref sig .tc)), stretch 143 11 V (no_index (Proc.devRef .tc r)) = V (Proc.devRef .tc r) := by
  simp only [List.forall_mem_cons]
  refine ⟨?_, ?_, ?_, ?_, ?_, ?_, ?_, ?_, ?_, ?_, fun _ h => nomatch h⟩ <;> (unfold stretch; after_reads_simp)

/-- The rows moved down. -/
theorem s5_v93 (V : Vals) : stretch 143 11 V (no_index (Proc.devRef .tc main_v93)) = down (get V main_arg0) := by
  unfold stretch; after_reads_simp; (try simp only [StableHlo.TRef.ofBuf_toBuf]); try rfl

/-- Their absolute values. -/
theorem s5_v94 (V : Vals) : stretch 143 11 V (no_index (Proc.devRef .tc main_v94)) = Host.absf (down (get V main_arg0)) := by
  unfold stretch; after_reads_simp; (try simp only [StableHlo.TRef.ofBuf_toBuf]); try rfl

/-- Their negative coordinates. -/
theorem s5_v96 (V : Vals) : stretch 143 11 V (no_index (Proc.devRef .tc main_v96)) = negs (down (get V main_arg0)) := by
  unfold stretch; after_reads_simp; (try simp only [StableHlo.TRef.ofBuf_toBuf]); try rfl

/-- How many of them there are. -/
theorem s5_v98 (V : Vals) : stretch 143 11 V (no_index (Proc.devRef .tc main_v98)) = count (negs (down (get V main_arg0))) := by
  unfold stretch; after_reads_simp; (try simp only [StableHlo.TRef.ofBuf_toBuf]); try rfl

/-- The divisor. -/
theorem s5_c_28 (V : Vals) : stretch 143 11 V (no_index (Proc.devRef .tc main_c_28)) = constantI S_ 32 2#32 := by
  unfold stretch; after_reads_simp; (try simp only [StableHlo.TRef.ofBuf_toBuf]); try rfl

/-- What the stretch `154`, `21` leaves as it was. -/
theorem t5_keeps (V : Vals) : ∀ r ∈ ([main_arg0, main_arg1, main_arg2, main_arg3, main_arg4, main_arg5, main_c_0, main_v42, main_v46, main_v91, main_v93, main_v94, main_v96] : List (Ref sig .tc)), stretch 154 21 V (no_index (Proc.devRef .tc r)) = V (Proc.devRef .tc r) := by
  simp only [List.forall_mem_cons]
  refine ⟨?_, ?_, ?_, ?_, ?_, ?_, ?_, ?_, ?_, ?_, ?_, ?_, ?_, fun _ h => nomatch h⟩ <;> (unfold stretch; after_reads_simp)

/-- The remainders. -/
theorem t5_v99 (V : Vals) : stretch 154 21 V (no_index (Proc.devRef .tc main_v99)) = remainder (get V main_c_28) (get V main_v98) := by
  unfold stretch; after_reads_simp; (try simp only [StableHlo.TRef.ofBuf_toBuf]); try rfl

/-- What the stretch `175`, `23` leaves as it was. -/
theorem u5_keeps (V : Vals) : ∀ r ∈ ([main_arg0, main_arg1, main_arg2, main_arg3, main_arg4, main_arg5, main_c_0, main_v42, main_v46, main_v91, main_v93] : List (Ref sig .tc)), stretch 175 23 V (no_index (Proc.devRef .tc r)) = V (Proc.devRef .tc r) := by
  simp only [List.forall_mem_cons]
  refine ⟨?_, ?_, ?_, ?_, ?_, ?_, ?_, ?_, ?_, ?_, ?_, fun _ h => nomatch h⟩ <;> (unfold stretch; after_reads_simp)

/-- The unsigned parts. -/
theorem u5_v111 (V : Vals) : stretch 175 23 V (no_index (Proc.devRef .tc main_v111)) = flipped (flips (get V main_v99)) (get V main_v94) := by
  unfold stretch; after_reads_simp; (try simp only [StableHlo.TRef.ofBuf_toBuf]); try rfl

/-- The signs. -/
theorem u5_v118 (V : Vals) : stretch 175 23 V (no_index (Proc.devRef .tc main_v118)) = flipped (flips (get V main_v99)) (signs (get V main_v96)) := by
  unfold stretch; after_reads_simp; (try simp only [StableHlo.TRef.ofBuf_toBuf]); try rfl

/-- What the stretch `198`, `13` leaves as it was. -/
theorem s6_keeps (V : Vals) : ∀ r ∈ ([main_arg0, main_arg1, main_arg2, main_arg3, main_arg4, main_arg5, main_c_0, main_v42, main_v46, main_v91, main_v93, main_v118] : List (Ref sig .tc)), stretch 198 13 V (no_index (Proc.devRef .tc r)) = V (Proc.devRef .tc r) := by
  simp only [List.forall_mem_cons]
  refine ⟨?_, ?_, ?_, ?_, ?_, ?_, ?_, ?_, ?_, ?_, ?_, ?_, fun _ h => nomatch h⟩ <;> (unfold stretch; after_reads_simp)

/-- The chosen row numbers. -/
theorem s6_v126 (V : Vals) : stretch 198 13 V (no_index (Proc.devRef .tc main_v126)) = best (scores (get V main_arg1) (get V main_arg2) (get V main_v111)) := by
  unfold stretch; after_reads_simp; (try simp only [StableHlo.TRef.ofBuf_toBuf]); try rfl

/-- What the stretch `211`, `24` leaves as it was. -/
theorem s7_keeps (V : Vals) : ∀ r ∈ ([main_arg0, main_arg1, main_arg2, main_arg3, main_arg4, main_arg5, main_c_0, main_v42, main_v46, main_v91, main_v118] : List (Ref sig .tc)), stretch 211 24 V (no_index (Proc.devRef .tc r)) = V (Proc.devRef .tc r) := by
  simp only [List.forall_mem_cons]
  refine ⟨?_, ?_, ?_, ?_, ?_, ?_, ?_, ?_, ?_, ?_, ?_, fun _ h => nomatch h⟩ <;> (unfold stretch; after_reads_simp)

/-- The chosen rows. -/
theorem s7_v133 (V : Vals) : stretch 211 24 V (no_index (Proc.devRef .tc main_v133)) = picked (get V main_arg1) (get V main_v126) := by
  unfold stretch; after_reads_simp; (try simp only [StableHlo.TRef.ofBuf_toBuf]); try rfl

/-- The values. -/
theorem s7_v134 (V : Vals) : stretch 211 24 V (no_index (Proc.devRef .tc main_v134)) = mulf (picked (get V main_arg1) (get V main_v126)) (get V main_v118) := by
  unfold stretch; after_reads_simp; (try simp only [StableHlo.TRef.ofBuf_toBuf]); try rfl

/-- The distances. -/
theorem s7_v138 (V : Vals) : stretch 211 24 V (no_index (Proc.devRef .tc main_v138)) = errs (get V main_v93) (mulf (picked (get V main_arg1) (get V main_v126)) (get V main_v118)) := by
  unfold stretch; after_reads_simp; (try simp only [StableHlo.TRef.ofBuf_toBuf]); try rfl

/-- The codes. -/
theorem s7_v145 (V : Vals) : stretch 211 24 V (no_index (Proc.devRef .tc main_v145)) = codes (get V main_arg3) (get V main_v126) := by
  unfold stretch; after_reads_simp; (try simp only [StableHlo.TRef.ofBuf_toBuf]); try rfl

/-- What the stretch `235`, `49` leaves as it was. -/
theorem s8_keeps (V : Vals) : ∀ r ∈ ([main_arg0, main_arg1, main_arg2, main_arg3, main_arg4, main_arg5, main_v42, main_v46, main_v91, main_v134, main_v138] : List (Ref sig .tc)), stretch 235 49 V (no_index (Proc.devRef .tc r)) = V (Proc.devRef .tc r) := by
  simp only [List.forall_mem_cons]
  refine ⟨?_, ?_, ?_, ?_, ?_, ?_, ?_, ?_, ?_, ?_, ?_, fun _ h => nomatch h⟩ <;> (unfold stretch; after_reads_simp)

/-- The code words. -/
theorem s8_v183 (V : Vals) : stretch 235 49 V (no_index (Proc.devRef .tc main_v183)) = idxs (get V main_arg5) (get V main_v145) (bits0 0#1 (bits7 (get V main_arg4) (get V main_v145) (diffs (get V main_c_0) (get V main_v133) (get V main_v118)))) := by
  unfold stretch; after_reads_simp; (try simp only [StableHlo.TRef.ofBuf_toBuf]); try rfl

/-- What the stretch `284`, `11` leaves as it was. -/
theorem s9_keeps (V : Vals) : ∀ r ∈ ([main_arg0, main_arg1, main_arg2, main_arg3, main_arg4, main_arg5] : List (Ref sig .tc)), stretch 284 11 V (no_index (Proc.devRef .tc r)) = V (Proc.devRef .tc r) := by
  simp only [List.forall_mem_cons]
  refine ⟨?_, ?_, ?_, ?_, ?_, ?_, fun _ h => nomatch h⟩ <;> (unfold stretch; after_reads_simp)

/-- The first result. -/
theorem s9_v190 (V : Vals) : stretch 284 11 V (no_index (Proc.devRef .tc main_v190)) =
      select (broadcastInDim S131072x8 ![0, 1] bcast_S131072x1_S131072x8_0_1 (broadcastInDim S131072x1 ![0] bcast_S131072_S131072x1_0
          (cmpf (F := Ideal) (φ := .f32) .olt (get V main_v46) (get V main_v138))))
        (subf (F := Ideal) (φ := .f32) (get V main_v42) (spread 0x3E800000#32)) (addf (F := Ideal) (φ := .f32) (get V main_v134) (spread 0x3E800000#32)) := by
  unfold stretch; after_reads_simp; (try simp only [StableHlo.TRef.ofBuf_toBuf]); try rfl

/-- The second result. -/
theorem s9_v191 (V : Vals) : stretch 284 11 V (no_index (Proc.devRef .tc main_v191)) =
      select (cmpf (F := Ideal) (φ := .f32) .olt (get V main_v46) (get V main_v138)) (get V main_v91) (get V main_v183) := by
  unfold stretch; after_reads_simp; (try simp only [StableHlo.TRef.ofBuf_toBuf]); try rfl

/-- The line is its stretches one after another. -/
theorem line_split (V : Vals) : StableHlo.after line.1 V =
    stretch 284 11 (stretch 235 49 (stretch 211 24 (stretch 198 13 (stretch 175 23 (stretch 154 21 (stretch 143 11 (stretch 94 49
      (stretch 70 24 (stretch 57 13 (stretch 34 23 (stretch 13 21 (stretch 0 13 V)))))))))))) := by
  unfold stretch
  simp only [← StableHlo.after_append]
  rfl

/-- The line leaves the arguments as they were. -/
theorem line_args (V : Vals) : ∀ r ∈ ([main_arg0, main_arg1, main_arg2, main_arg3, main_arg4, main_arg5] : List (Ref sig .tc)), StableHlo.after line.1 V (Proc.devRef .tc r) = V (Proc.devRef .tc r) := by
  simp only [List.forall_mem_cons]
  refine ⟨?_, ?_, ?_, ?_, ?_, ?_, fun _ h => nomatch h⟩ <;>
    (rw [line_split]; simp (disch := decide) only [s9_keeps, s8_keeps, s7_keeps, s6_keeps, u5_keeps, t5_keeps, s5_keeps, s4_keeps, s3_keeps, s2_keeps, u1_keeps, t1_keeps, s1_keeps])

/-- The first result at the line's end. -/
theorem line_v190 (V : Vals) : StableHlo.after line.1 V (Proc.devRef .tc main_v190) = outV (get V main_arg1) (get V main_arg2) (get V main_arg0) := by
  rw [line_split]
  simp (disch := decide) only [s1_keeps, s1_c, s1_c_0, s1_v1, s1_v2, s1_v4, s1_v6, s1_c_3, t1_keeps, t1_v7, u1_keeps, u1_v19, u1_v26, s2_keeps, s2_v34, s3_keeps, s3_v41, s3_v42, s3_v46, s3_v53, s4_keeps, s4_v91, s5_keeps, s5_v93, s5_v94, s5_v96, s5_v98, s5_c_28, t5_keeps, t5_v99, u5_keeps, u5_v111, u5_v118, s6_keeps, s6_v126, s7_keeps, s7_v133, s7_v134, s7_v138, s7_v145, s8_keeps, s8_v183, s9_keeps, s9_v190, s9_v191]
  rfl

/-- The second result at the line's end. -/
theorem line_v191 (V : Vals) : StableHlo.after line.1 V (Proc.devRef .tc main_v191) =
    outI (get V main_arg1) (get V main_arg2) (get V main_arg3) (get V main_arg4) (get V main_arg5) (get V main_arg0) := by
  rw [line_split]
  simp (disch := decide) only [s1_keeps, s1_c, s1_c_0, s1_v1, s1_v2, s1_v4, s1_v6, s1_c_3, t1_keeps, t1_v7, u1_keeps, u1_v19, u1_v26, s2_keeps, s2_v34, s3_keeps, s3_v41, s3_v42, s3_v46, s3_v53, s4_keeps, s4_v91, s5_keeps, s5_v93, s5_v94, s5_v96, s5_v98, s5_c_28, t5_keeps, t5_v99, u5_keeps, u5_v111, u5_v118, s6_keeps, s6_v126, s7_keeps, s7_v133, s7_v134, s7_v138, s7_v145, s8_keeps, s8_v183, s9_keeps, s9_v190, s9_v191]
  rfl

/-- The reference runs, leaves its arguments and every counter as they were, and ends with the two terms above. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v190) = outV (m ((c.tc : Thread nD τ).loc main_arg1)) (m ((c.tc : Thread nD τ).loc main_arg2))
          (m ((c.tc : Thread nD τ).loc main_arg0))
      ∧ r.2.mem ((c.tc : Thread nD τ).loc main_v191) = outI (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine θ_run_mono (StableHlo.run_hlo _ _ line.2 (by decide) (by decide) (by simp [line])
    (by intro _ h; (repeat (cases h with | head => rfl | tail _ h => ?_)); exact nomatch h) m g) ?_
  intro r hr
  refine ⟨fun c => ⟨(hr c _).trans (line_v190 _), (hr c _).trans (line_v191 _), ?_⟩, sem_eq_zero_of_no_sems rfl _⟩
  refine ⟨?_, ?_, ?_, ?_, ?_, ?_⟩ <;> exact (hr c _).trans (line_args _ _ (by decide))

end Cert.RefRun

end
-- ==== Proof.RefAt.lean ====
/- The reference's two results read at a row: they are what the specification says of that row. -/
module

public import proofs.«01_k».proof.Proof.RefTerm
public import proofs.«01_k».proof.Proof.Movement

@[expose] public section

set_option maxRecDepth 16384

noncomputable section

namespace Cert.RefAt

open Idealize.ShloMosaic Idealize.SL.Sem Cert.ReferenceIdeal Cert.ReferenceIdeal.Facts₀ Cert.Ref

/-- The sign bits of a row. -/
theorem negs_at (x : FVec Ideal S131072x8 .f32) (r : Fin 131072) (k : Fin 8) : negs x (ix2 r k) = Spec.neg (row x r) k := by
  pointwise [negs, spread]
  rfl

/-- The number of set bits of a row. -/
theorem count_at (n : IVec S131072x8 1) (r : Fin 131072) : Cert.Ref.count n (ix1 r) = Spec.ones (row n r) := by
  pointwise [Cert.Ref.count]
  rw [Spec.fold_eight, BitVec.add_zero]
  rfl

/-- The remainder by two, on words: a number of set bits leaves its parity. -/
theorem remainder_word (n : Fin 8 → BitVec 1) :
    Scalar.select
        (IntOp.andi (IntOp.cmpi .ne (IntOp.cmpi .slt (IntOp.remsi .host (Spec.ones n) (Scalar.select (IntOp.cmpi .eq 2#32 0#32) 1#32 2#32)) 0#32)
            (IntOp.cmpi .slt (Scalar.select (IntOp.cmpi .eq 2#32 0#32) 1#32 2#32) 0#32))
          (IntOp.cmpi .ne (IntOp.remsi .host (Spec.ones n) (Scalar.select (IntOp.cmpi .eq 2#32 0#32) 1#32 2#32)) 0#32))
        (IntOp.addi (IntOp.remsi .host (Spec.ones n) (Scalar.select (IntOp.cmpi .eq 2#32 0#32) 1#32 2#32))
          (Scalar.select (IntOp.cmpi .eq 2#32 0#32) 1#32 2#32))
        (IntOp.remsi .host (Spec.ones n) (Scalar.select (IntOp.cmpi .eq 2#32 0#32) 1#32 2#32))
      = Spec.wide (Spec.odd n) := by
  have small : ∀ a b c d e f g h : BitVec 1, ∃ k : Fin 9, Spec.wide a + (Spec.wide b + (Spec.wide c + (Spec.wide d + (Spec.wide e + (Spec.wide f
      + (Spec.wide g + Spec.wide h)))))) = BitVec.ofNat 32 k.val := by decide +kernel
  obtain ⟨k, hk⟩ : ∃ k : Fin 9, Spec.ones n = BitVec.ofNat 32 k.val := small _ _ _ _ _ _ _ _
  rw [← Spec.ones_and_one, hk]
  clear hk
  revert k
  decide +kernel

/-- The remainder by two of a number of set bits is their parity. -/
theorem remainder_at (x : IVec S131072 32) (r : Fin 131072) (n : Fin 8 → BitVec 1) (h : x (ix1 r) = Spec.ones n) :
    remainder (constantI S_ 32 2#32) x (ix1 r) = Spec.wide (Spec.odd n) := by
  pointwise [remainder, rows, divisor, id_eq]
  rw [h]
  exact remainder_word n

/-- The remainders of the rows of `x` are the parities of their sign bits. -/
theorem oddness_at (x : FVec Ideal S131072x8 .f32) (r : Fin 131072) : oddness x (ix1 r) = Spec.wide (Spec.odd (Spec.neg (row x r))) :=
  remainder_at _ r _ ((count_at _ r).trans (congrArg Spec.ones (funext fun k => negs_at x r k)))

/-- The flip on words: the last coordinate where the parity is odd. -/
theorem flip_word (n : Fin 8 → BitVec 1) (k : Fin 8) :
    IntOp.andi (IntOp.cmpi .eq (BitVec.ofNat 32 k.val) 7#32) (IntOp.cmpi .eq (Spec.wide (Spec.odd n)) 1#32)
      = BitVec.ofBool (decide (Spec.turned n k)) := by
  have h : ∀ (b : BitVec 1) (k : Fin 8), IntOp.andi (IntOp.cmpi .eq (BitVec.ofNat 32 k.val) 7#32) (IntOp.cmpi .eq (Spec.wide b) 1#32)
      = BitVec.ofBool (decide (k = 7 ∧ b = 1#1)) := by decide +kernel
  exact h _ _

/-- Where the reference flips a sign. -/
theorem flips_at (x : FVec Ideal S131072x8 .f32) (r : Fin 131072) (k : Fin 8) :
    flips (oddness x) (ix2 r k) = BitVec.ofBool (decide (Spec.turned (Spec.neg (row x r)) k)) := by
  pointwise [flips, rows]
  rw [oddness_at]
  exact flip_word _ k

/-- The unsigned parts of a row. -/
theorem parts_at (x : FVec Ideal S131072x8 .f32) (r : Fin 131072) (k : Fin 8) : parts x (ix2 r k) = Spec.part (row x r) k := by
  pointwise [parts, flipped]
  rw [flips_at, WordCmp.select_decide]
  rfl

/-- The mask of a row. -/
theorem masks_at (x : FVec Ideal S131072x8 .f32) (r : Fin 131072) (k : Fin 8) : masks x (ix2 r k) = Spec.sign (Spec.neg (row x r)) k := by
  pointwise [masks, flipped, signs, spread]
  rw [flips_at, WordCmp.select_decide, negs_at, Spec.ofBits_two,
    show (1 : EReal) - 2 * FloatOps.uitofp (F := Ideal) .f32 (Spec.neg (row x r) k) = Spec.unit (Spec.neg (row x r) k) from Spec.one_sub_two_mul _]
  rfl

/-- The product of the rows with the codebook's columns. -/
theorem dot_at (p : FVec Ideal S131072x8 .f32) (q : FVec Ideal S8x1366 .f32) (r : Fin 131072) (k : Fin 1366) :
    Host.dotGeneral dot_S131072x8_S8x1366_S131072x1366_1_0_0_1_n_n none p q (ix2 r k) = ∑ x, p (ix2 r x) * q (ix2 x k) := by
  pointwise

/-- The codebook's columns. -/
theorem turn_at (gp : FVec Ideal S1366x8 .f32) (k : Fin 8) (j : Fin 1366) :
    transpose S8x1366 [1, 0] gp transposes_S1366x8_S8x1366_1_0 (ix2 k j) = gp (ix2 j k) := by
  pointwise

/-- The codebook's norms along every row of scores. -/
theorem spreadRow_at (gn : FVec Ideal S1366 .f32) (r : Fin 131072) (j : Fin 1366) :
    broadcastInDim S131072x1366 ![0, 1] bcast_S1x1366_S131072x1366_0_1 (broadcastInDim S1x1366 ![1] bcast_S1366_S1x1366_1 gn) (ix2 r j) = gn (ix1 j) := by
  pointwise

/-- The factor of the scores. -/
theorem two_at (r : Fin 131072) (j : Fin 1366) :
    broadcastInDim S131072x1366 ![] bcast_S_S131072x1366 (constant (F := Ideal) S_ .f32 0x40000000#32) (ix2 r j) = 2 := by
  pointwise
  exact Spec.ofBits_two

/-- The sum of a row. -/
theorem rowSum_at (x : FVec Ideal S131072x8 .f32) (r : Fin 131072) :
    Host.reduceAdd x (constant S_ .f32 0x00000000#32) reducesTo_S131072x8_S131072_d1 h_S_ (ix1 r) = ∑ k, x (ix2 r k) := by
  pointwise

/-- The scores of a row. -/
theorem scores_at (gp : FVec Ideal S1366x8 .f32) (gn : FVec Ideal S1366 .f32) (x : FVec Ideal S131072x8 .f32) (r : Fin 131072) (k : Fin 1366) :
    scores gp gn (parts x) (ix2 r k) = Spec.score (row gp k) (ent gn k) (row x r) := by
  unfold scores Spec.score
  rw [sub_at, mul_at, two_at, spreadRow_at, dot_at]
  exact congrArg (fun t => 2 * t - gn (ix1 k)) (Finset.sum_congr rfl fun j _ => by rw [parts_at, turn_at])

/-- The reference's arg-max step picks the better pair. -/
theorem picksBetter : PicksBetter (reducer_argmax_f32_i32 (F := Ideal)) := by
  have e : ∀ a b : EReal × BitVec 32, reducer_argmax_f32_i32 (F := Ideal) a b
      = (if b.1 < a.1 then a.1 else b.1, if b.1 < a.1 ∨ (a.1 = b.1 ∧ a.2.toInt < b.2.toInt) then a.2 else b.2) := by
    intro a b
    have h1 : FloatOps.cmpf (F := Ideal) (φ := .f32) .ogt a.1 b.1 = BitVec.ofBool (decide (b.1 < a.1)) := rfl
    have h2 : FloatOps.cmpf (F := Ideal) (φ := .f32) .une a.1 a.1 = BitVec.ofBool (decide (a.1 ≠ a.1)) := rfl
    have h3 : FloatOps.cmpf (F := Ideal) (φ := .f32) .oeq a.1 b.1 = BitVec.ofBool (decide (a.1 = b.1)) := rfl
    have h4 : IntOp.cmpi .slt a.2 b.2 = BitVec.ofBool (decide (a.2.toInt < b.2.toInt)) := rfl
    unfold reducer_argmax_f32_i32
    simp only [h1, h2, h3, h4]
    by_cases p : b.1 < a.1 <;> by_cases q : a.1 = b.1 <;> by_cases t : a.2.toInt < b.2.toInt <;> simp [p, q, t, IntOp.ori, IntOp.andi, Scalar.select]
  constructor
  · intro a b h
    rw [e, if_pos h]
    rcases h with h | h
    · rw [if_pos h]
    · rw [h.1, ite_self, ← h.1]
  · intro a b h
    rw [e, if_neg h, if_neg fun q => h (.inl q)]

/-- The reference's arg-max is the first greatest index. -/
theorem best_at (s : FVec Ideal S131072x1366 .f32) (r : Fin 131072) : best s (ix1 r) = BitVec.ofNat 32 (Spec.top (row s r)).val := by
  have bot : constant (F := Ideal) S_ .f32 0xFF800000#32 (Shape.Idx.first h_S_) = ⊥ := by
    rw [constant_at]
    simp [Ideal.ofBits, Ideal.ieee]
  have e : best s = fun j => (Host.argReduce reducer_argmax_f32_i32 s (iotaInDim S131072x1366 32 1) (constant S_ .f32 0xFF800000#32)
      (constantI S_ 32 0#32) reducesTo_S131072x1366_S131072_d1 h_S_ j).2 := rfl
  rw [e]
  exact argReduce_top picksBetter s _ _ reducesTo_S131072x1366_S131072_d1 h_S_ bot rfl r

/-- The row of the codebook that the reference chooses. -/
theorem near_at (gp : FVec Ideal S1366x8 .f32) (gn : FVec Ideal S1366 .f32) (x : FVec Ideal S131072x8 .f32) (r : Fin 131072) :
    Ref.near gp gn x (ix1 r) = BitVec.ofNat 32 (Spec.near (row gp) (ent gn) (row x r)).val := by
  unfold Ref.near Spec.near
  rw [best_at, show row (scores gp gn (parts x)) r = fun j => Spec.score (row gp j) (ent gn j) (row x r) from funext fun j => scores_at gp gn x r j]

/-- A gather's start index for a row number in range. -/
theorem starts_at (b : BitVec 32) (q : IVec S131072 32) (r : Fin 131072) (z : Fin 1) :
    starts b q (ix2 r z) = Scalar.select (IntOp.cmpi .slt (q (ix1 r)) 0#32) (IntOp.addi (q (ix1 r)) b) (q (ix1 r)) := by
  pointwise [starts, rows]

/-- The chosen rows of the codebook. -/
theorem picked_at (gp : FVec Ideal S1366x8 .f32) (q : IVec S131072 32) (r : Fin 131072) (n : Fin 1366) (h : q (ix1 r) = BitVec.ofNat 32 n.val)
    (k : Fin 8) : picked gp q (ix2 r k) = row gp n k :=
  Routing.gather_row gather_S1366x8_S131072x1_S131072x8_1_0_n_n_0_1_18 rfl rfl rfl rfl rfl gp (starts 1366#32 q) r k n
    ((starts_at _ _ _ _).trans (by rw [h]; exact wrap_ofNat n.val 1366 (by omega))) (by decide)

/-- The chosen codes. -/
theorem codes_at (cm : IVec S1366 32) (q : IVec S131072 32) (r : Fin 131072) (n : Fin 1366) (h : q (ix1 r) = BitVec.ofNat 32 n.val) :
    codes cm q (ix1 r) = ent cm n :=
  Routing.gather_take1 gather_S1366_S131072x1_S131072_n_0_n_n_0_1_1 rfl rfl rfl rfl cm (starts 1366#32 q) r n
    ((starts_at _ _ _ _).trans (by rw [h]; exact wrap_ofNat n.val 1366 (by omega))) (by decide)

/-- The parities of the chosen codes. -/
theorem pars_at (od : IVec S256 1) (cd : IVec S131072 32) (r : Fin 131072) : pars od cd (ix1 r) = ent od (Spec.slot (cd (ix1 r))) := by
  unfold pars
  rw [gather_entry gather_S256_S131072x1_S131072_n_0_n_n_0_1_1 rfl rfl rfl rfl od (starts 256#32 cd) r (by decide)]
  simp only [starts_at]
  rfl

/-- The quantised rows. -/
theorem vals_at (gp : FVec Ideal S1366x8 .f32) (gn : FVec Ideal S1366 .f32) (x : FVec Ideal S131072x8 .f32) (r : Fin 131072) (k : Fin 8) :
    Ref.vals gp gn x (ix2 r k) = Spec.val (row gp) (ent gn) (row x r) k := by
  pointwise [Ref.vals]
  rw [picked_at _ _ _ _ (near_at gp gn x r), masks_at]
  rfl

/-- The distances of the rows from their quantised rows. -/
theorem errs_at (gp : FVec Ideal S1366x8 .f32) (gn : FVec Ideal S1366 .f32) (x : FVec Ideal S131072x8 .f32) (r : Fin 131072) :
    errs x (Ref.vals gp gn x) (ix1 r) = Ideal.sqrt (Spec.err (row gp) (ent gn) (row x r)) := by
  unfold errs Spec.err
  rw [sqrt_at, rowSum_at]
  simp only [mul_at, sub_at, vals_at]

/-- Column `b` replaced, read at an entry. -/
theorem put_at (b : Fin 8) (s : IVec S131072x8 1) (u : IVec S131072 1) (r : Fin 131072) (k : Fin 8) :
    put (BitVec.ofNat 32 b.val) s u (ix2 r k) = if k = b then u (ix1 r) else s (ix2 r k) :=
  scatter_column scatter_S131072x8_S1_S131072_0_1_1_0 rfl rfl s _ u b (StableHlo.Predicate.toInt_ofNat_small _ (by omega)) r k

/-- The compared signs, in the order of a code word's bits. -/
theorem diffs_at (l : IVec S8 32) (hl : ∀ i : Fin 8, l (ix1 i) = BitVec.ofNat 32 (Spec.perm i).val) (a k : FVec Ideal S131072x8 .f32) (r : Fin 131072)
    (i : Fin 8) : diffs l a k (ix2 r i) = Spec.below (a (ix2 r (Spec.perm i))) ^^^ Spec.below (k (ix2 r (Spec.perm i))) := by
  unfold diffs
  rw [gather_column gather_S131072x8_S8x1_S131072x8_0_1_n_n_1_1_1310721 rfl rfl rfl rfl rfl _ _ r i (Spec.perm i)]
  · pointwise [spread]
    rfl
  · have h : order l (ix2 i 0) = BitVec.ofNat 32 (Spec.perm i).val := by
      pointwise [order]
      rw [hl]
      exact wrap_ofNat _ 8 (by omega)
    rw [h, StableHlo.Predicate.toInt_ofNat_small _ (by omega)]
    rfl

/-- The bits of a row's code word. -/
theorem bits_at (l : IVec S8 32) (hl : ∀ i : Fin 8, l (ix1 i) = BitVec.ofNat 32 (Spec.perm i).val) (p : BitVec 1) (od : IVec S256 1)
    (cd : IVec S131072 32) (a k : FVec Ideal S131072x8 .f32) (r : Fin 131072) (g : Fin 8 → EReal) (n : Fin 8 → BitVec 1)
    (ha : ∀ i, a (ix2 r i) = g i) (hk : ∀ i, k (ix2 r i) = Spec.sign n i) (i : Fin 8) :
    bits0 p (bits7 od cd (diffs l a k)) (ix2 r i) = Spec.bit g n (ent od (Spec.slot (cd (ix1 r)))) p i := by
  have h7 : ∀ i, bits7 od cd (diffs l a k) (ix2 r i)
      = (Spec.below (g (Spec.perm i)) ^^^ Spec.below (Spec.sign n (Spec.perm i))) ^^^ if i = 7 then ent od (Spec.slot (cd (ix1 r))) else 0#1 := fun i => by
    unfold bits7
    rw [show (7#32 : BitVec 32) = BitVec.ofNat 32 (7 : Fin 8).val from rfl, put_at]
    by_cases h : i = 7
    · subst h
      rw [if_pos rfl, if_pos rfl]
      pointwise
      rw [pars_at, diffs_at l hl, ha, hk]
      rfl
    · rw [if_neg h, if_neg h, diffs_at l hl, ha, hk, BitVec.xor_zero]
  unfold bits0
  rw [show (0#32 : BitVec 32) = BitVec.ofNat 32 (0 : Fin 8).val from rfl, put_at]
  by_cases h : i = 0
  · subst h
    rw [if_pos rfl]
    pointwise [rows]
    rw [h7]
    simp [Spec.bit, IntOp.xori]
  · rw [if_neg h, h7]
    simp [Spec.bit, h]

/-- A code word, from its code and its bits. -/
theorem idxs_at (bm : IVec S8 32) (hbm : ∀ i : Fin 8, bm (ix1 i) = 1#32 <<< i.val) (cd : IVec S131072 32) (s : IVec S131072x8 1) (r : Fin 131072) :
    idxs bm cd s (ix1 r) = cd (ix1 r) <<< 8 + Spec.pack (row s r) := by
  pointwise [idxs, rows]
  rw [Spec.fold_eight, BitVec.add_zero]
  simp only [hbm]
  rfl

/-- The code words of one shift. -/
theorem words_at (l : IVec S8 32) (hl : ∀ i : Fin 8, l (ix1 i) = BitVec.ofNat 32 (Spec.perm i).val) (p : BitVec 1) (gp : FVec Ideal S1366x8 .f32)
    (gn : FVec Ideal S1366 .f32) (cm : IVec S1366 32) (od : IVec S256 1) (bm : IVec S8 32) (hbm : ∀ i : Fin 8, bm (ix1 i) = 1#32 <<< i.val)
    (x : FVec Ideal S131072x8 .f32) (r : Fin 131072) :
    words l p gp gn cm od bm x (ix1 r) = Spec.word (row gp) (ent gn) (ent cm) (ent od) p (row x r) := by
  unfold words Spec.word
  have hn := near_at gp gn x r
  rw [idxs_at bm hbm, codes_at cm _ r _ hn]
  refine congrArg (fun b => _ + Spec.pack b) (funext fun i => ?_)
  rw [row, bits_at l hl p od _ _ _ r _ _ (fun i => picked_at gp _ r _ hn i) (fun i => masks_at x r i), codes_at cm _ r _ hn]

/-- Both square roots compare as their arguments do. -/
theorem sqrt_lt_sqrt {a b : EReal} (ha : 0 ≤ a) (hb : 0 ≤ b) : Ideal.sqrt a < Ideal.sqrt b ↔ a < b := by
  induction a using EReal.rec with
  | bot => exact absurd ha (by simp)
  | top => simp
  | coe a =>
    have ha' : 0 ≤ a := by exact_mod_cast ha
    induction b using EReal.rec with
    | bot => exact absurd hb (by simp)
    | top => simp [not_lt.2 ha']
    | coe b =>
      have hb' : 0 ≤ b := by exact_mod_cast hb
      simp only [Ideal.sqrt_coe, if_neg (not_lt.2 ha'), if_neg (not_lt.2 hb'), EReal.coe_lt_coe_iff]
      exact Real.sqrt_lt_sqrt_iff ha'

/-- A square is not negative, whatever is squared. -/
theorem sq_nonneg (a : EReal) : 0 ≤ a * a := by
  rcases le_total 0 a with h | h
  · exact mul_nonneg h h
  · have := mul_nonneg (EReal.neg_nonneg.2 h) (EReal.neg_nonneg.2 h)
    rwa [EReal.neg_mul, mul_comm, EReal.neg_mul, neg_neg] at this

/-- A squared distance is not negative. -/
theorem err_nonneg (g : Fin 1366 → Fin 8 → EReal) (m : Fin 1366 → EReal) (x : Fin 8 → EReal) : 0 ≤ Spec.err g m x :=
  Finset.sum_nonneg fun _ _ => sq_nonneg _

/-- The rows moved up. -/
theorem up_at (x : FVec Ideal S131072x8 .f32) (r : Fin 131072) : row (up x) r = Spec.up (row x r) := by
  funext k
  show up x (ix2 r k) = _
  pointwise [up, spread]
  rfl

/-- The rows moved down. -/
theorem down_at (x : FVec Ideal S131072x8 .f32) (r : Fin 131072) : row (down x) r = Spec.down (row x r) := by
  funext k
  show down x (ix2 r k) = _
  pointwise [down, spread]
  rfl

/-- Which shift serves a row better. -/
theorem better_at (gp : FVec Ideal S1366x8 .f32) (gn : FVec Ideal S1366 .f32) (x : FVec Ideal S131072x8 .f32) (r : Fin 131072) :
    better gp gn x (ix1 r)
      = BitVec.ofBool (decide (Spec.err (row gp) (ent gn) (Spec.up (row x r)) < Spec.err (row gp) (ent gn) (Spec.down (row x r)))) := by
  unfold better
  rw [olt_at, errs_at, errs_at, up_at, down_at]
  exact congrArg BitVec.ofBool (decide_eq_decide.2 (sqrt_lt_sqrt (err_nonneg _ _ _) (err_nonneg _ _ _)))

/-- A bit of each row along it. -/
theorem alongRows_at (b : IVec S131072 1) (r : Fin 131072) (k : Fin 8) :
    broadcastInDim S131072x8 ![0, 1] bcast_S131072x1_S131072x8_0_1 (broadcastInDim S131072x1 ![0] bcast_S131072_S131072x1_0 b) (ix2 r k) = b (ix1 r) := by
  pointwise

/-- A scalar spread over the rows. -/
theorem spread_at (b : BitVec 32) (r : Fin 131072) (k : Fin 8) : spread b (ix2 r k) = Ideal.ofBits .f32 b := by
  pointwise [spread]

/-- **The reference's values**, at a row and a coordinate. -/
theorem outV_at (gp : FVec Ideal S1366x8 .f32) (gn : FVec Ideal S1366 .f32) (x : FVec Ideal S131072x8 .f32) (r : Fin 131072) (k : Fin 8) :
    Ref.outV gp gn x (ix2 r k) = Spec.outV (row gp) (ent gn) (row x r) k := by
  unfold Ref.outV Spec.outV
  rw [choose_at, sub_at, add_at, alongRows_at, better_at, WordCmp.select_decide, vals_at, vals_at, up_at, down_at, spread_at]

/-- **The reference's code words**, at a row. -/
theorem outI_at (gp : FVec Ideal S1366x8 .f32) (gn : FVec Ideal S1366 .f32) (cm : IVec S1366 32) (od : IVec S256 1) (bm : IVec S8 32)
    (hbm : ∀ i : Fin 8, bm (ix1 i) = 1#32 <<< i.val) (x : FVec Ideal S131072x8 .f32) (r : Fin 131072) :
    Ref.outI gp gn cm od bm x (ix1 r) = Spec.outI (row gp) (ent gn) (ent cm) (ent od) (row x r) := by
  have h₀ : ∀ i : Fin 8, order₀ (ix1 i) = BitVec.ofNat 32 (Spec.perm i).val := by decide +kernel
  have h₁ : ∀ i : Fin 8, order₁ (ix1 i) = BitVec.ofNat 32 (Spec.perm i).val := by decide +kernel
  unfold Ref.outI Spec.outI
  rw [choose_at, better_at, WordCmp.select_decide, words_at _ h₀ _ _ _ _ _ _ hbm, words_at _ h₁ _ _ _ _ _ _ hbm, up_at, down_at]

end Cert.RefAt

end
-- ==== Proof.Tame.lean ====
module

public import proofs.«01_k».proof.Defs
public import proofs.«01_k».proof.Proof.KernelAt
public import Idealize.ShloMosaic.Lib.ReduceAll
public import Idealize.ShloMosaic.Lib.Affine

/- The precondition read: every coordinate, row and norm is a real number of size at most 10¹², and the bit table holds the
   eight powers of two. -/

@[expose] public section

noncomputable section

namespace Cert.Tame

open Idealize.ShloMosaic Cert.Pre_tame

/-- The shape relations the precondition takes. -/
theorem facts : Cert.Pre_tame.Facts where
  bcast_S_S131072x8 := by decide
  reducesTo_S131072x8_S_d0_1 := by decide
  h_S_ := by decide
  bcast_S_S1366x8 := by decide
  reducesTo_S1366x8_S_d0_1 := by decide
  bcast_S_S1366 := by decide
  reducesTo_S1366_S_d0 := by decide
  reducesTo_S8_S_d0 := by decide

/-- The bound's pattern is a number a little under 10¹². -/
theorem bound : Ideal.ofBits .f32 0x5368D4A5#32 = ((999999995904 : ℝ) : EReal) := by
  simp [Ideal.ofBits, Ideal.ieee, -EReal.coe_mul]
  norm_num

/-- An extended real whose size passes the bound is a real of size at most 10¹². -/
theorem within_of (x : EReal) (h : max x (-x) ≤ Ideal.ofBits .f32 0x5368D4A5#32) : Body.Within (10 ^ 12) x := by
  rw [bound] at h
  have hi := (le_max_left x (-x)).trans h
  have lo := (le_max_right x (-x)).trans h
  induction x with
  | bot => exact absurd lo (by simp)
  | top => exact absurd hi (by simp)
  | coe r =>
    rw [← EReal.coe_neg] at lo
    have a := EReal.coe_le_coe_iff.1 hi
    have b := EReal.coe_le_coe_iff.1 lo
    exact ⟨r, rfl, abs_le.2 ⟨by linarith, by linarith⟩⟩

/-- A comparison that is 1 where an array's size is held against the bound. -/
theorem within_at {s : Shape} (x y : FVec Ideal s .f32) (i : s.Idx) (hy : y i = Ideal.ofBits .f32 0x5368D4A5#32)
    (h : cmpf .ole (Host.absf x) y i = 1#1) : Body.Within (10 ^ 12) (x i) := by
  refine within_of _ (hy ▸ ?_)
  have e : BitVec.ofBool (decide (max (x i) (-(x i)) ≤ y i)) = 1#1 := h
  by_contra n
  rw [decide_eq_false n] at e
  exact absurd e (by decide)

/-- The table's literals are the powers of two. -/
theorem places (i : Fin 8) : lit0 (S8.rowMajor (ix1 i)) = 1#32 <<< i.val := by
  revert i
  decide +kernel

variable [Cert.Pre_tame.Facts] (x : FVec Ideal S131072x8 .f32) (gp : FVec Ideal S1366x8 .f32) (gn : FVec Ideal S1366 .f32)
  (cm : IVec S1366 32) (od : IVec S256 1) (bm : IVec S8 32)

/-- What the precondition says of the arguments. -/
structure Says : Prop where
  /-- The coordinates are bounded. -/
  coords : ∀ i, Body.Within (10 ^ 12) (x i)
  /-- The grid's rows are bounded. -/
  rows : ∀ i, Body.Within (10 ^ 12) (gp i)
  /-- The grid's norms are bounded. -/
  norms : ∀ i, Body.Within (10 ^ 12) (gn i)
  /-- The bit table holds the powers of two. -/
  bits : ∀ i : Fin 8, bm (ix1 i) = 1#32 <<< i.val

instance : Subsingleton S_.Idx := ⟨fun a b => funext fun d => d.elim0⟩

/-- The precondition's all-ones value says so. -/
theorem reads (h : Cert.Pre_tame.fn (F := Ideal) x gp gn cm od bm = fun _ => 1#1) : Says x gp gn bm := by
  have h0 := congrFun h (Shape.Idx.first Facts.h_S_)
  obtain ⟨h1, hbits⟩ := IntOp.andi_eq_one.1 h0
  obtain ⟨h2, hnorms⟩ := IntOp.andi_eq_one.1 h1
  obtain ⟨hcoords, hrows⟩ := IntOp.andi_eq_one.1 h2
  refine ⟨fun i => within_at x _ i rfl (Host.reduce_andi_all _ _ _ _ _ hcoords i),
    fun i => within_at gp _ i rfl (Host.reduce_andi_all _ _ _ _ _ hrows i),
    fun i => within_at gn _ i rfl (Host.reduce_andi_all _ _ _ _ _ hnorms i), fun i => ?_⟩
  have e : cmpi .eq bm (fun j => lit0 (S8.rowMajor j)) (ix1 i) = 1#1 := Host.reduce_andi_all _ _ _ _ _ hbits (ix1 i)
  have q : bm (ix1 i) = lit0 (S8.rowMajor (ix1 i)) := by
    have w : BitVec.ofBool (bm (ix1 i) == lit0 (S8.rowMajor (ix1 i))) = 1#1 := e
    by_contra n
    rw [beq_false_of_ne n] at w
    exact absurd w (by decide)
  exact q.trans (places i)

end Cert.Tame

end
-- ==== Proof.lean ====
/- The claims assembled: the two kernels' frames, the reference's frame, the idealisation, and the equality of results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.RefAt
public import proofs.«01_k».proof.Proof.Tame
public import Idealize.ShloMosaic.Adequacy
public import Idealize.ShloMosaic.Init

@[expose] public section

noncomputable section

namespace Cert.Proof

open Idealize.ShloMosaic Idealize.SL.Sem

/-- The reference's frame: it runs, its arguments end unchanged and every counter reads zero. -/
theorem reference_frame : Cert.quiescent_ReferenceIdeal (hReferenceIdeal := Cert.ReferenceIdeal.Gen.facts) := fun m g _ =>
  θ_run_mono (Cert.RefRun.run m g) fun _ h => ⟨fun c => (h.1 c).2.2, h.2⟩

/-- From agreeing tame arguments the kernel and the reference end with equal results. -/
theorem equal_results : Cert.algebraic_KernelIdeal_ReferenceIdeal_pre_tame (hKernelIdeal := Cert.KernelIdeal.Gen.facts)
    (hReferenceIdeal := Cert.ReferenceIdeal.Gen.facts) (hPre_tame := Cert.Tame.facts) := by
  intro m g m' g' hpre hagree
  have said := fun c => @Tame.reads Tame.facts _ _ _ _ _ _ (hpre c)
  have bounded : ∀ c, Body.Bounded (KernelRun.gp m c) (KernelRun.gn m c) := fun c =>
    ⟨fun j k => (said c).rows (ix2 j k), fun j => (said c).norms (ix1 j)⟩
  have coords : ∀ c r k, Body.Within (10 ^ 12) (row (KernelRun.xs m c) r k) := fun c r k => (said c).coords (ix2 r k)
  refine ⟨_, _, KernelRun.run m g, θ_run_mono (Cert.RefRun.run m' g') fun r h c => ⟨?_, ?_, (h.1 c).2.2⟩⟩
  · obtain ⟨e0, e1, e2, -⟩ := hagree c
    refine (h.1 c).1.trans ?_
    rw [e0, e1, e2]
    funext i
    rw [eq_ix2 i]
    exact (RefAt.outV_at _ _ _ _ _).trans (KernelRun.result_values m c (bounded c) (coords c) _ _).symm
  · obtain ⟨e0, e1, e2, e3, e4, e5⟩ := hagree c
    refine (h.1 c).2.1.trans ?_
    rw [e0, e1, e2, e3, e4, e5]
    funext i
    rw [eq_ix1 i]
    exact (RefAt.outI_at _ _ _ _ _ (said c).bits _ _).trans (KernelRun.result_words m c (bounded c) (coords c) _).symm

/-- Every claim of the certificate: the three frames, the idealisation, and the equality of the two results. -/
theorem claim : Cert.Claim :=
  ⟨Cert.Kernel.Gen.facts, Cert.KernelIdeal.Gen.facts, Cert.ReferenceIdeal.Gen.facts, Cert.Tame.facts,
    fun m g _ => Cert.Kernel.Gen.frame m g, fun m g _ => Cert.KernelIdeal.Gen.frame m g, fun m g _ => Cert.KernelIdeal.Gen.frame m g,
    reference_frame, fun m g _ => reference_frame m g trivial, trivial, equal_results⟩

end Cert.Proof

end
